-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x100000 : Shape := ⟨3, ![64, 8, 100000]⟩
abbrev S512x100000 : Shape := ⟨2, ![512, 100000]⟩
abbrev S8x100000 : Shape := ⟨2, ![8, 100000]⟩
abbrev S8x1 : Shape := ⟨2, ![8, 1]⟩
abbrev S8x2048 : Shape := ⟨2, ![8, 2048]⟩
abbrev S8x1696 : Shape := ⟨2, ![8, 1696]⟩
abbrev S16x100000 : Shape := ⟨2, ![16, 100000]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S64x8x100000, .f32⟩
  | .hbm, ⟨1, _⟩ => ⟨S512x100000, .f32⟩
  | .hbm, ⟨2, _⟩ => ⟨S512x100000, .f32⟩
  | .hbm, ⟨3, _⟩ => ⟨S512x100000, .f32⟩
  | .hbm, ⟨4, _⟩ => ⟨S64x8x100000, .f32⟩
  | .local _ .vmem, ⟨0, _⟩ => ⟨S8x100000, .f32⟩
  | .local _ .vmem, ⟨1, _⟩ => ⟨S8x100000, .f32⟩
  | .local _ .vmem, ⟨2, _⟩ => ⟨S16x100000, .f32⟩
  | .local _ .vmem, ⟨3, _⟩ => ⟨S16x100000, .f32⟩
  | .local _ .vmem, ⟨4, _⟩ => ⟨S16x100000, .f32⟩
  | .local _ .vmem, ⟨5, _⟩ => ⟨S16x100000, .f32⟩
  | .local _ .vmem, ⟨6, _⟩ => ⟨S16x100000, .f32⟩
  | .local _ .vmem, ⟨7, _⟩ => ⟨S16x100000, .f32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x100000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x8x100000 : Shape := ⟨3, ![64, 8, 100000]⟩
abbrev S_ : Shape := ⟨0, ![]⟩
abbrev S64x8 : Shape := ⟨2, ![64, 8]⟩
abbrev S64x8x1 : Shape := ⟨3, ![64, 8, 1]⟩
abbrev S1 : Shape := ⟨1, ![1]⟩
abbrev S2 : Shape := ⟨1, ![2]⟩
abbrev S1x1x1 : Shape := ⟨3, ![1, 1, 1]⟩
abbrev S1x1x100000 : Shape := ⟨3, ![1, 1, 100000]⟩

abbrev nBuf : Space → Nat
  | .hbm => 321
  | .vmem => 0
  | .smem => 0
  | _ => 0

abbrev hbmTy0_0 (i : Nat) : BufTy := match i % 128 with
  | 0 => ⟨S64x8x100000, .f32⟩
  | 1 => ⟨S_, .f32⟩
  | 2 => ⟨S64x8x100000, .f32⟩
  | 3 => ⟨S64x8x100000, .f32⟩
  | 4 => ⟨S_, .f32⟩
  | 5 => ⟨S64x8, .f32⟩
  | 6 => ⟨S_, .f32⟩
  | 7 => ⟨S64x8, .f32⟩
  | 8 => ⟨S64x8, .f32⟩
  | 9 => ⟨S64x8x1, .f32⟩
  | 10 => ⟨S64x8x100000, .f32⟩
  | 11 => ⟨S64x8x100000, .f32⟩
  | 12 => ⟨S64x8x100000, .f32⟩
  | 13 => ⟨S_, .f32⟩
  | 14 => ⟨S64x8, .f32⟩
  | 15 => ⟨S64x8x1, .f32⟩
  | 16 => ⟨S64x8x100000, .f32⟩
  | 17 => ⟨S64x8x100000, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S_, .f32⟩
  | 29 => ⟨S_, .f32⟩
  | 30 => ⟨S_, .f32⟩
  | 31 => ⟨S64x8x100000, .f32⟩
  | 32 => ⟨S64x8x100000, .f32⟩
  | 33 => ⟨S_, .f32⟩
  | 34 => ⟨S64x8x100000, .f32⟩
  | 35 => ⟨S64x8x100000, .f32⟩
  | 36 => ⟨S64x8x100000, .f32⟩
  | 37 => ⟨S_, .f32⟩
  | 38 => ⟨S_, .f32⟩
  | 39 => ⟨S_, .f32⟩
  | 40 => ⟨S1x1x1, .f32⟩
  | 41 => ⟨S1x1x1, .f32⟩
  | 42 => ⟨S1, .i32⟩
  | 43 => ⟨S_, .i32⟩
  | 44 => ⟨S1, .i32⟩
  | 45 => ⟨S_, .i32⟩
  | 46 => ⟨S64x8x100000, .i64⟩
  | 47 => ⟨S64x8x100000, .i64⟩
  | 48 => ⟨S64x8x100000, .i64⟩
  | 49 => ⟨S_, .i64⟩
  | 50 => ⟨S64x8x100000, .i64⟩
  | 51 => ⟨S64x8x100000, .i64⟩
  | 52 => ⟨S_, .i64⟩
  | 53 => ⟨S64x8x100000, .i64⟩
  | 54 => ⟨S64x8x100000, .i64⟩
  | 55 => ⟨S_, .i64⟩
  | 56 => ⟨S64x8x100000, .i64⟩
  | 57 => ⟨S64x8x100000, .i64⟩
  | 58 => ⟨S64x8x100000, .i64⟩
  | 59 => ⟨S64x8x100000, .i64⟩
  | 60 => ⟨S_, .i64⟩
  | 61 => ⟨S64x8x100000, .i64⟩
  | 62 => ⟨S64x8x100000, .i64⟩
  | 63 => ⟨S64x8x100000, .i32⟩
  | 64 => ⟨S64x8x100000, .i32⟩
  | 65 => ⟨S_, .i32⟩
  | 66 => ⟨S_, .i32⟩
  | 67 => ⟨S_, .i32⟩
  | 68 => ⟨S64x8x100000, .i32⟩
  | 69 => ⟨S64x8x100000, .i32⟩
  | 70 => ⟨S64x8x100000, .i32⟩
  | 71 => ⟨S64x8x100000, .i32⟩
  | 72 => ⟨S64x8x100000, .i32⟩
  | 73 => ⟨S_, .i32⟩
  | 74 => ⟨S64x8x100000, .i32⟩
  | 75 => ⟨S64x8x100000, .i32⟩
  | 76 => ⟨S_, .i32⟩
  | 77 => ⟨S64x8x100000, .i32⟩
  | 78 => ⟨S64x8x100000, .i32⟩
  | 79 => ⟨S64x8x100000, .i32⟩
  | 80 => ⟨S64x8x100000, .i32⟩
  | 81 => ⟨S64x8x100000, .i32⟩
  | 82 => ⟨S_, .i32⟩
  | 83 => ⟨S64x8x100000, .i32⟩
  | 84 => ⟨S64x8x100000, .i32⟩
  | 85 => ⟨S_, .i32⟩
  | 86 => ⟨S64x8x100000, .i32⟩
  | 87 => ⟨S64x8x100000, .i32⟩
  | 88 => ⟨S64x8x100000, .i32⟩
  | 89 => ⟨S64x8x100000, .i32⟩
  | 90 => ⟨S64x8x100000, .i32⟩
  | 91 => ⟨S_, .i32⟩
  | 92 => ⟨S64x8x100000, .i32⟩
  | 93 => ⟨S64x8x100000, .i32⟩
  | 94 => ⟨S_, .i32⟩
  | 95 => ⟨S64x8x100000, .i32⟩
  | 96 => ⟨S64x8x100000, .i32⟩
  | 97 => ⟨S64x8x100000, .i32⟩
  | 98 => ⟨S64x8x100000, .i32⟩
  | 99 => ⟨S64x8x100000, .i32⟩
  | 100 => ⟨S_, .i32⟩
  | 101 => ⟨S64x8x100000, .i32⟩
  | 102 => ⟨S64x8x100000, .i32⟩
  | 103 => ⟨S_, .i32⟩
  | 104 => ⟨S64x8x100000, .i32⟩
  | 105 => ⟨S64x8x100000, .i32⟩
  | 106 => ⟨S64x8x100000, .i32⟩
  | 107 => ⟨S64x8x100000, .i32⟩
  | 108 => ⟨S64x8x100000, .i32⟩
  | 109 => ⟨S64x8x100000, .i32⟩
  | 110 => ⟨S64x8x100000, .i32⟩
  | 111 => ⟨S64x8x100000, .i32⟩
  | 112 => ⟨S_, .i32⟩
  | 113 => ⟨S64x8x100000, .i32⟩
  | 114 => ⟨S64x8x100000, .i32⟩
  | 115 => ⟨S64x8x100000, .i32⟩
  | 116 => ⟨S_, .i32⟩
  | 117 => ⟨S64x8x100000, .i32⟩
  | 118 => ⟨S64x8x100000, .i32⟩
  | 119 => ⟨S_, .i32⟩
  | 120 => ⟨S64x8x100000, .i32⟩
  | 121 => ⟨S64x8x100000, .i32⟩
  | 122 => ⟨S64x8x100000, .i32⟩
  | 123 => ⟨S64x8x100000, .i32⟩
  | 124 => ⟨S64x8x100000, .i32⟩
  | 125 => ⟨S_, .i32⟩
  | 126 => ⟨S64x8x100000, .i32⟩
  | 127 => ⟨S64x8x100000, .i32⟩
  | _ => ⟨S64x8x100000, .f32⟩

abbrev hbmTy0_1 (i : Nat) : BufTy := match i % 128 with
  | 0 => ⟨S_, .i32⟩
  | 1 => ⟨S64x8x100000, .i32⟩
  | 2 => ⟨S64x8x100000, .i32⟩
  | 3 => ⟨S64x8x100000, .i32⟩
  | 4 => ⟨S64x8x100000, .i32⟩
  | 5 => ⟨S64x8x100000, .i32⟩
  | 6 => ⟨S_, .i32⟩
  | 7 => ⟨S64x8x100000, .i32⟩
  | 8 => ⟨S64x8x100000, .i32⟩
  | 9 => ⟨S_, .i32⟩
  | 10 => ⟨S64x8x100000, .i32⟩
  | 11 => ⟨S64x8x100000, .i32⟩
  | 12 => ⟨S64x8x100000, .i32⟩
  | 13 => ⟨S64x8x100000, .i32⟩
  | 14 => ⟨S64x8x100000, .i32⟩
  | 15 => ⟨S_, .i32⟩
  | 16 => ⟨S64x8x100000, .i32⟩
  | 17 => ⟨S64x8x100000, .i32⟩
  | 18 => ⟨S_, .i32⟩
  | 19 => ⟨S64x8x100000, .i32⟩
  | 20 => ⟨S64x8x100000, .i32⟩
  | 21 => ⟨S64x8x100000, .i32⟩
  | 22 => ⟨S64x8x100000, .i32⟩
  | 23 => ⟨S64x8x100000, .i32⟩
  | 24 => ⟨S64x8x100000, .i32⟩
  | 25 => ⟨S64x8x100000, .i32⟩
  | 26 => ⟨S64x8x100000, .i32⟩
  | 27 => ⟨S_, .i32⟩
  | 28 => ⟨S64x8x100000, .i32⟩
  | 29 => ⟨S64x8x100000, .i32⟩
  | 30 => ⟨S64x8x100000, .i32⟩
  | 31 => ⟨S_, .i32⟩
  | 32 => ⟨S64x8x100000, .i32⟩
  | 33 => ⟨S64x8x100000, .i32⟩
  | 34 => ⟨S_, .i32⟩
  | 35 => ⟨S64x8x100000, .i32⟩
  | 36 => ⟨S64x8x100000, .i32⟩
  | 37 => ⟨S64x8x100000, .i32⟩
  | 38 => ⟨S64x8x100000, .i32⟩
  | 39 => ⟨S64x8x100000, .i32⟩
  | 40 => ⟨S_, .i32⟩
  | 41 => ⟨S64x8x100000, .i32⟩
  | 42 => ⟨S64x8x100000, .i32⟩
  | 43 => ⟨S_, .i32⟩
  | 44 => ⟨S64x8x100000, .i32⟩
  | 45 => ⟨S64x8x100000, .i32⟩
  | 46 => ⟨S64x8x100000, .i32⟩
  | 47 => ⟨S64x8x100000, .i32⟩
  | 48 => ⟨S64x8x100000, .i32⟩
  | 49 => ⟨S_, .i32⟩
  | 50 => ⟨S64x8x100000, .i32⟩
  | 51 => ⟨S64x8x100000, .i32⟩
  | 52 => ⟨S_, .i32⟩
  | 53 => ⟨S64x8x100000, .i32⟩
  | 54 => ⟨S64x8x100000, .i32⟩
  | 55 => ⟨S64x8x100000, .i32⟩
  | 56 => ⟨S64x8x100000, .i32⟩
  | 57 => ⟨S64x8x100000, .i32⟩
  | 58 => ⟨S_, .i32⟩
  | 59 => ⟨S64x8x100000, .i32⟩
  | 60 => ⟨S64x8x100000, .i32⟩
  | 61 => ⟨S_, .i32⟩
  | 62 => ⟨S64x8x100000, .i32⟩
  | 63 => ⟨S64x8x100000, .i32⟩
  | 64 => ⟨S64x8x100000, .i32⟩
  | 65 => ⟨S64x8x100000, .i32⟩
  | 66 => ⟨S64x8x100000, .i32⟩
  | 67 => ⟨S64x8x100000, .i32⟩
  | 68 => ⟨S64x8x100000, .i32⟩
  | 69 => ⟨S64x8x100000, .i32⟩
  | 70 => ⟨S_, .i32⟩
  | 71 => ⟨S64x8x100000, .i32⟩
  | 72 => ⟨S64x8x100000, .i32⟩
  | 73 => ⟨S64x8x100000, .i32⟩
  | 74 => ⟨S_, .i32⟩
  | 75 => ⟨S64x8x100000, .i32⟩
  | 76 => ⟨S64x8x100000, .i32⟩
  | 77 => ⟨S_, .i32⟩
  | 78 => ⟨S64x8x100000, .i32⟩
  | 79 => ⟨S64x8x100000, .i32⟩
  | 80 => ⟨S64x8x100000, .i32⟩
  | 81 => ⟨S64x8x100000, .i32⟩
  | 82 => ⟨S64x8x100000, .i32⟩
  | 83 => ⟨S_, .i32⟩
  | 84 => ⟨S64x8x100000, .i32⟩
  | 85 => ⟨S64x8x100000, .i32⟩
  | 86 => ⟨S_, .i32⟩
  | 87 => ⟨S64x8x100000, .i32⟩
  | 88 => ⟨S64x8x100000, .i32⟩
  | 89 => ⟨S64x8x100000, .i32⟩
  | 90 => ⟨S64x8x100000, .i32⟩
  | 91 => ⟨S64x8x100000, .i32⟩
  | 92 => ⟨S_, .i32⟩
  | 93 => ⟨S64x8x100000, .i32⟩
  | 94 => ⟨S64x8x100000, .i32⟩
  | 95 => ⟨S_, .i32⟩
  | 96 => ⟨S64x8x100000, .i32⟩
  | 97 => ⟨S64x8x100000, .i32⟩
  | 98 => ⟨S64x8x100000, .i32⟩
  | 99 => ⟨S64x8x100000, .i32⟩
  | 100 => ⟨S64x8x100000, .i32⟩
  | 101 => ⟨S_, .i32⟩
  | 102 => ⟨S64x8x100000, .i32⟩
  | 103 => ⟨S64x8x100000, .i32⟩
  | 104 => ⟨S_, .i32⟩
  | 105 => ⟨S64x8x100000, .i32⟩
  | 106 => ⟨S64x8x100000, .i32⟩
  | 107 => ⟨S64x8x100000, .i32⟩
  | 108 => ⟨S64x8x100000, .i32⟩
  | 109 => ⟨S64x8x100000, .i32⟩
  | 110 => ⟨S64x8x100000, .i32⟩
  | 111 => ⟨S64x8x100000, .i32⟩
  | 112 => ⟨S64x8x100000, .i32⟩
  | 113 => ⟨S_, .i32⟩
  | 114 => ⟨S64x8x100000, .i32⟩
  | 115 => ⟨S64x8x100000, .i32⟩
  | 116 => ⟨S64x8x100000, .i32⟩
  | 117 => ⟨S_, .i32⟩
  | 118 => ⟨S64x8x100000, .i32⟩
  | 119 => ⟨S64x8x100000, .i32⟩
  | 120 => ⟨S_, .i32⟩
  | 121 => ⟨S64x8x100000, .i32⟩
  | 122 => ⟨S64x8x100000, .i32⟩
  | 123 => ⟨S64x8x100000, .i32⟩
  | 124 => ⟨S64x8x100000, .i32⟩
  | 125 => ⟨S64x8x100000, .i32⟩
  | 126 => ⟨S_, .i32⟩
  | 127 => ⟨S64x8x100000, .i32⟩
  | _ => ⟨S64x8x100000, .f32⟩

abbrev hbmTy0_2 (i : Nat) : BufTy := match i % 128 with
  | 0 => ⟨S64x8x100000, .i32⟩
  | 1 => ⟨S_, .i32⟩
  | 2 => ⟨S64x8x100000, .i32⟩
  | 3 => ⟨S64x8x100000, .i32⟩
  | 4 => ⟨S64x8x100000, .i32⟩
  | 5 => ⟨S64x8x100000, .i32⟩
  | 6 => ⟨S64x8x100000, .i32⟩
  | 7 => ⟨S_, .i32⟩
  | 8 => ⟨S64x8x100000, .i32⟩
  | 9 => ⟨S64x8x100000, .i32⟩
  | 10 => ⟨S_, .i32⟩
  | 11 => ⟨S64x8x100000, .i32⟩
  | 12 => ⟨S64x8x100000, .i32⟩
  | 13 => ⟨S64x8x100000, .i32⟩
  | 14 => ⟨S64x8x100000, .i32⟩
  | 15 => ⟨S64x8x100000, .i32⟩
  | 16 => ⟨S_, .i32⟩
  | 17 => ⟨S64x8x100000, .i32⟩
  | 18 => ⟨S64x8x100000, .i32⟩
  | 19 => ⟨S_, .i32⟩
  | 20 => ⟨S64x8x100000, .i32⟩
  | 21 => ⟨S64x8x100000, .i32⟩
  | 22 => ⟨S64x8x100000, .i32⟩
  | 23 => ⟨S64x8x100000, .i32⟩
  | 24 => ⟨S64x8x100000, .i32⟩
  | 25 => ⟨S64x8x100000, .i32⟩
  | 26 => ⟨S64x8x100000, .i32⟩
  | 27 => ⟨S64x8x100000, .i32⟩
  | 28 => ⟨S_, .i32⟩
  | 29 => ⟨S64x8x100000, .i32⟩
  | 30 => ⟨S64x8x100000, .i32⟩
  | 31 => ⟨S64x8x100000, .i32⟩
  | 32 => ⟨S_, .i32⟩
  | 33 => ⟨S64x8x100000, .i32⟩
  | 34 => ⟨S64x8x100000, .i32⟩
  | 35 => ⟨S_, .i32⟩
  | 36 => ⟨S64x8x100000, .i32⟩
  | 37 => ⟨S64x8x100000, .i32⟩
  | 38 => ⟨S64x8x100000, .f32⟩
  | 39 => ⟨S_, .f32⟩
  | 40 => ⟨S64x8x100000, .f32⟩
  | 41 => ⟨S64x8x100000, .f32⟩
  | 42 => ⟨S1x1x1, .f32⟩
  | 43 => ⟨S64x8x100000, .f32⟩
  | 44 => ⟨S64x8x100000, .f32⟩
  | 45 => ⟨S64x8x100000, .f32⟩
  | 46 => ⟨S64x8x100000, .f32⟩
  | 47 => ⟨S64x8x100000, .f32⟩
  | 48 => ⟨S64x8x100000, .f32⟩
  | 49 => ⟨S64x8x100000, .f32⟩
  | 50 => ⟨S64x8x100000, .f32⟩
  | 51 => ⟨S64x8x100000, .f32⟩
  | 52 => ⟨S64x8x100000, .f32⟩
  | 53 => ⟨S64x8x100000, .f32⟩
  | 54 => ⟨S64x8x100000, .i32⟩
  | 55 => ⟨S_, .f32⟩
  | 56 => ⟨S_, .i32⟩
  | 57 => ⟨S64x8, .f32⟩
  | 58 => ⟨S64x8, .i32⟩
  | 59 => ⟨S64x8x1, .i32⟩
  | 60 => ⟨S1x1x100000, .i32⟩
  | 61 => ⟨S64x8x100000, .i32⟩
  | 62 => ⟨S64x8x100000, .i32⟩
  | 63 => ⟨S64x8x100000, .i1⟩
  | 64 => ⟨S64x8x100000, .f32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_call1_cst : Ref sig .tc := ⟨.hbm, 37, rfl⟩
abbrev main_call1_cst_0 : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_c : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_call0_c_0 : Ref sig .tc := ⟨.hbm, 52, rfl⟩
abbrev main_call1_call0_v12 : Ref sig .tc := ⟨.hbm, 53, rfl⟩
abbrev main_call1_call0_v13 : Ref sig .tc := ⟨.hbm, 54, rfl⟩
abbrev main_call1_call0_c_1 : Ref sig .tc := ⟨.hbm, 55, rfl⟩
abbrev main_call1_call0_v14 : Ref sig .tc := ⟨.hbm, 56, rfl⟩
abbrev main_call1_call0_v15 : Ref sig .tc := ⟨.hbm, 57, rfl⟩
abbrev main_call1_call0_v16 : Ref sig .tc := ⟨.hbm, 58, rfl⟩
abbrev main_call1_call0_v17 : Ref sig .tc := ⟨.hbm, 59, rfl⟩
abbrev main_call1_call0_c_2 : Ref sig .tc := ⟨.hbm, 60, rfl⟩
abbrev main_call1_call0_v18 : Ref sig .tc := ⟨.hbm, 61, rfl⟩
abbrev main_call1_call0_v19 : Ref sig .tc := ⟨.hbm, 62, rfl⟩
abbrev main_call1_call0_v20 : Ref sig .tc := ⟨.hbm, 63, rfl⟩
abbrev main_call1_call0_v21 : Ref sig .tc := ⟨.hbm, 64, rfl⟩
abbrev main_call1_call0_call0_v0 : Ref sig .tc := ⟨.hbm, 65, rfl⟩
abbrev main_call1_call0_call0_c : Ref sig .tc := ⟨.hbm, 66, rfl⟩
abbrev main_call1_call0_call0_v1 : Ref sig .tc := ⟨.hbm, 67, rfl⟩
abbrev main_call1_call0_call0_v2 : Ref sig .tc := ⟨.hbm, 68, rfl⟩
abbrev main_call1_call0_call0_v3 : Ref sig .tc := ⟨.hbm, 69, rfl⟩
abbrev main_call1_call0_call0_v4 : Ref sig .tc := ⟨.hbm, 70, rfl⟩
abbrev main_call1_call0_call0_v5 : Ref sig .tc := ⟨.hbm, 71, rfl⟩
abbrev main_call1_call0_call0_v6 : Ref sig .tc := ⟨.hbm, 72, rfl⟩
abbrev main_call1_call0_call0_c_0 : Ref sig .tc := ⟨.hbm, 73, rfl⟩
abbrev main_call1_call0_call0_v7 : Ref sig .tc := ⟨.hbm, 74, rfl⟩
abbrev main_call1_call0_call0_v8 : Ref sig .tc := ⟨.hbm, 75, rfl⟩
abbrev main_call1_call0_call0_c_1 : Ref sig .tc := ⟨.hbm, 76, rfl⟩
abbrev main_call1_call0_call0_v9 : Ref sig .tc := ⟨.hbm, 77, rfl⟩
abbrev main_call1_call0_call0_v10 : Ref sig .tc := ⟨.hbm, 78, rfl⟩
abbrev main_call1_call0_call0_v11 : Ref sig .tc := ⟨.hbm, 79, rfl⟩
abbrev main_call1_call0_call0_v12 : Ref sig .tc := ⟨.hbm, 80, rfl⟩
abbrev main_call1_call0_call0_v13 : Ref sig .tc := ⟨.hbm, 81, rfl⟩
abbrev main_call1_call0_call0_c_2 : Ref sig .tc := ⟨.hbm, 82, rfl⟩
abbrev main_call1_call0_call0_v14 : Ref sig .tc := ⟨.hbm, 83, rfl⟩
abbrev main_call1_call0_call0_v15 : Ref sig .tc := ⟨.hbm, 84, rfl⟩
abbrev main_call1_call0_call0_c_3 : Ref sig .tc := ⟨.hbm, 85, rfl⟩
abbrev main_call1_call0_call0_v16 : Ref sig .tc := ⟨.hbm, 86, rfl⟩
abbrev main_call1_call0_call0_v17 : Ref sig .tc := ⟨.hbm, 87, rfl⟩
abbrev main_call1_call0_call0_v18 : Ref sig .tc := ⟨.hbm, 88, rfl⟩
abbrev main_call1_call0_call0_v19 : Ref sig .tc := ⟨.hbm, 89, rfl⟩
abbrev main_call1_call0_call0_v20 : Ref sig .tc := ⟨.hbm, 90, rfl⟩
abbrev main_call1_call0_call0_c_4 : Ref sig .tc := ⟨.hbm, 91, rfl⟩
abbrev main_call1_call0_call0_v21 : Ref sig .tc := ⟨.hbm, 92, rfl⟩
abbrev main_call1_call0_call0_v22 : Ref sig .tc := ⟨.hbm, 93, rfl⟩
abbrev main_call1_call0_call0_c_5 : Ref sig .tc := ⟨.hbm, 94, rfl⟩
abbrev main_call1_call0_call0_v23 : Ref sig .tc := ⟨.hbm, 95, rfl⟩
abbrev main_call1_call0_call0_v24 : Ref sig .tc := ⟨.hbm, 96, rfl⟩
abbrev main_call1_call0_call0_v25 : Ref sig .tc := ⟨.hbm, 97, rfl⟩
abbrev main_call1_call0_call0_v26 : Ref sig .tc := ⟨.hbm, 98, rfl⟩
abbrev main_call1_call0_call0_v27 : Ref sig .tc := ⟨.hbm, 99, rfl⟩
abbrev main_call1_call0_call0_c_6 : Ref sig .tc := ⟨.hbm, 100, rfl⟩
abbrev main_call1_call0_call0_v28 : Ref sig .tc := ⟨.hbm, 101, rfl⟩
abbrev main_call1_call0_call0_v29 : Ref sig .tc := ⟨.hbm, 102, rfl⟩
abbrev main_call1_call0_call0_c_7 : Ref sig .tc := ⟨.hbm, 103, rfl⟩
abbrev main_call1_call0_call0_v30 : Ref sig .tc := ⟨.hbm, 104, rfl⟩
abbrev main_call1_call0_call0_v31 : Ref sig .tc := ⟨.hbm, 105, rfl⟩
abbrev main_call1_call0_call0_v32 : Ref sig .tc := ⟨.hbm, 106, rfl⟩
abbrev main_call1_call0_call0_v33 : Ref sig .tc := ⟨.hbm, 107, rfl⟩
abbrev main_call1_call0_call0_v34 : Ref sig .tc := ⟨.hbm, 108, rfl⟩
abbrev main_call1_call0_call0_v35 : Ref sig .tc := ⟨.hbm, 109, rfl⟩
abbrev main_call1_call0_call0_v36 : Ref sig .tc := ⟨.hbm, 110, rfl⟩
abbrev main_call1_call0_call0_v37 : Ref sig .tc := ⟨.hbm, 111, rfl⟩
abbrev main_call1_call0_call0_c_8 : Ref sig .tc := ⟨.hbm, 112, rfl⟩
abbrev main_call1_call0_call0_v38 : Ref sig .tc := ⟨.hbm, 113, rfl⟩
abbrev main_call1_call0_call0_v39 : Ref sig .tc := ⟨.hbm, 114, rfl⟩
abbrev main_call1_call0_call0_v40 : Ref sig .tc := ⟨.hbm, 115, rfl⟩
abbrev main_call1_call0_call0_c_9 : Ref sig .tc := ⟨.hbm, 116, rfl⟩
abbrev main_call1_call0_call0_v41 : Ref sig .tc := ⟨.hbm, 117, rfl⟩
abbrev main_call1_call0_call0_v42 : Ref sig .tc := ⟨.hbm, 118, rfl⟩
abbrev main_call1_call0_call0_c_10 : Ref sig .tc := ⟨.hbm, 119, rfl⟩
abbrev main_call1_call0_call0_v43 : Ref sig .tc := ⟨.hbm, 120, rfl⟩
abbrev main_call1_call0_call0_v44 : Ref sig .tc := ⟨.hbm, 121, rfl⟩
abbrev main_call1_call0_call0_v45 : Ref sig .tc := ⟨.hbm, 122, rfl⟩
abbrev main_call1_call0_call0_v46 : Ref sig .tc := ⟨.hbm, 123, rfl⟩
abbrev main_call1_call0_call0_v47 : Ref sig .tc := ⟨.hbm, 124, rfl⟩
abbrev main_call1_call0_call0_c_11 : Ref sig .tc := ⟨.hbm, 125, rfl⟩
abbrev main_call1_call0_call0_v48 : Ref sig .tc := ⟨.hbm, 126, rfl⟩
abbrev main_call1_call0_call0_v49 : Ref sig .tc := ⟨.hbm, 127, rfl⟩
abbrev main_call1_call0_call0_c_12 : Ref sig .tc := ⟨.hbm, 128, rfl⟩
abbrev main_call1_call0_call0_v50 : Ref sig .tc := ⟨.hbm, 129, rfl⟩
abbrev main_call1_call0_call0_v51 : Ref sig .tc := ⟨.hbm, 130, rfl⟩
abbrev main_call1_call0_call0_v52 : Ref sig .tc := ⟨.hbm, 131, rfl⟩
abbrev main_call1_call0_call0_v53 : Ref sig .tc := ⟨.hbm, 132, rfl⟩
abbrev main_call1_call0_call0_v54 : Ref sig .tc := ⟨.hbm, 133, rfl⟩
abbrev main_call1_call0_call0_c_13 : Ref sig .tc := ⟨.hbm, 134, rfl⟩
abbrev main_call1_call0_call0_v55 : Ref sig .tc := ⟨.hbm, 135, rfl⟩
abbrev main_call1_call0_call0_v56 : Ref sig .tc := ⟨.hbm, 136, rfl⟩
abbrev main_call1_call0_call0_c_14 : Ref sig .tc := ⟨.hbm, 137, rfl⟩
abbrev main_call1_call0_call0_v57 : Ref sig .tc := ⟨.hbm, 138, rfl⟩
abbrev main_call1_call0_call0_v58 : Ref sig .tc := ⟨.hbm, 139, rfl⟩
abbrev main_call1_call0_call0_v59 : Ref sig .tc := ⟨.hbm, 140, rfl⟩
abbrev main_call1_call0_call0_v60 : Ref sig .tc := ⟨.hbm, 141, rfl⟩
abbrev main_call1_call0_call0_v61 : Ref sig .tc := ⟨.hbm, 142, rfl⟩
abbrev main_call1_call0_call0_c_15 : Ref sig .tc := ⟨.hbm, 143, rfl⟩
abbrev main_call1_call0_call0_v62 : Ref sig .tc := ⟨.hbm, 144, rfl⟩
abbrev main_call1_call0_call0_v63 : Ref sig .tc := ⟨.hbm, 145, rfl⟩
abbrev main_call1_call0_call0_c_16 : Ref sig .tc := ⟨.hbm, 146, rfl⟩
abbrev main_call1_call0_call0_v64 : Ref sig .tc := ⟨.hbm, 147, rfl⟩
abbrev main_call1_call0_call0_v65 : Ref sig .tc := ⟨.hbm, 148, rfl⟩
abbrev main_call1_call0_call0_v66 : Ref sig .tc := ⟨.hbm, 149, rfl⟩
abbrev main_call1_call0_call0_v67 : Ref sig .tc := ⟨.hbm, 150, rfl⟩
abbrev main_call1_call0_call0_v68 : Ref sig .tc := ⟨.hbm, 151, rfl⟩
abbrev main_call1_call0_call0_v69 : Ref sig .tc := ⟨.hbm, 152, rfl⟩
abbrev main_call1_call0_call0_v70 : Ref sig .tc := ⟨.hbm, 153, rfl⟩
abbrev main_call1_call0_call0_v71 : Ref sig .tc := ⟨.hbm, 154, rfl⟩
abbrev main_call1_call0_call0_c_17 : Ref sig .tc := ⟨.hbm, 155, rfl⟩
abbrev main_call1_call0_call0_v72 : Ref sig .tc := ⟨.hbm, 156, rfl⟩
abbrev main_call1_call0_call0_v73 : Ref sig .tc := ⟨.hbm, 157, rfl⟩
abbrev main_call1_call0_call0_v74 : Ref sig .tc := ⟨.hbm, 158, rfl⟩
abbrev main_call1_call0_call0_c_18 : Ref sig .tc := ⟨.hbm, 159, rfl⟩
abbrev main_call1_call0_call0_v75 : Ref sig .tc := ⟨.hbm, 160, rfl⟩
abbrev main_call1_call0_call0_v76 : Ref sig .tc := ⟨.hbm, 161, rfl⟩
abbrev main_call1_call0_call0_c_19 : Ref sig .tc := ⟨.hbm, 162, rfl⟩
abbrev main_call1_call0_call0_v77 : Ref sig .tc := ⟨.hbm, 163, rfl⟩
abbrev main_call1_call0_call0_v78 : Ref sig .tc := ⟨.hbm, 164, rfl⟩
abbrev main_call1_call0_call0_v79 : Ref sig .tc := ⟨.hbm, 165, rfl⟩
abbrev main_call1_call0_call0_v80 : Ref sig .tc := ⟨.hbm, 166, rfl⟩
abbrev main_call1_call0_call0_v81 : Ref sig .tc := ⟨.hbm, 167, rfl⟩
abbrev main_call1_call0_call0_c_20 : Ref sig .tc := ⟨.hbm, 168, rfl⟩
abbrev main_call1_call0_call0_v82 : Ref sig .tc := ⟨.hbm, 169, rfl⟩
abbrev main_call1_call0_call0_v83 : Ref sig .tc := ⟨.hbm, 170, rfl⟩
abbrev main_call1_call0_call0_c_21 : Ref sig .tc := ⟨.hbm, 171, rfl⟩
abbrev main_call1_call0_call0_v84 : Ref sig .tc := ⟨.hbm, 172, rfl⟩
abbrev main_call1_call0_call0_v85 : Ref sig .tc := ⟨.hbm, 173, rfl⟩
abbrev main_call1_call0_call0_v86 : Ref sig .tc := ⟨.hbm, 174, rfl⟩
abbrev main_call1_call0_call0_v87 : Ref sig .tc := ⟨.hbm, 175, rfl⟩
abbrev main_call1_call0_call0_v88 : Ref sig .tc := ⟨.hbm, 176, rfl⟩
abbrev main_call1_call0_call0_c_22 : Ref sig .tc := ⟨.hbm, 177, rfl⟩
abbrev main_call1_call0_call0_v89 : Ref sig .tc := ⟨.hbm, 178, rfl⟩
abbrev main_call1_call0_call0_v90 : Ref sig .tc := ⟨.hbm, 179, rfl⟩
abbrev main_call1_call0_call0_c_23 : Ref sig .tc := ⟨.hbm, 180, rfl⟩
abbrev main_call1_call0_call0_v91 : Ref sig .tc := ⟨.hbm, 181, rfl⟩
abbrev main_call1_call0_call0_v92 : Ref sig .tc := ⟨.hbm, 182, rfl⟩
abbrev main_call1_call0_call0_v93 : Ref sig .tc := ⟨.hbm, 183, rfl⟩
abbrev main_call1_call0_call0_v94 : Ref sig .tc := ⟨.hbm, 184, rfl⟩
abbrev main_call1_call0_call0_v95 : Ref sig .tc := ⟨.hbm, 185, rfl⟩
abbrev main_call1_call0_call0_c_24 : Ref sig .tc := ⟨.hbm, 186, rfl⟩
abbrev main_call1_call0_call0_v96 : Ref sig .tc := ⟨.hbm, 187, rfl⟩
abbrev main_call1_call0_call0_v97 : Ref sig .tc := ⟨.hbm, 188, rfl⟩
abbrev main_call1_call0_call0_c_25 : Ref sig .tc := ⟨.hbm, 189, rfl⟩
abbrev main_call1_call0_call0_v98 : Ref sig .tc := ⟨.hbm, 190, rfl⟩
abbrev main_call1_call0_call0_v99 : Ref sig .tc := ⟨.hbm, 191, rfl⟩
abbrev main_call1_call0_call0_v100 : Ref sig .tc := ⟨.hbm, 192, rfl⟩
abbrev main_call1_call0_call0_v101 : Ref sig .tc := ⟨.hbm, 193, rfl⟩
abbrev main_call1_call0_call0_v102 : Ref sig .tc := ⟨.hbm, 194, rfl⟩
abbrev main_call1_call0_call0_v103 : Ref sig .tc := ⟨.hbm, 195, rfl⟩
abbrev main_call1_call0_call0_v104 : Ref sig .tc := ⟨.hbm, 196, rfl⟩
abbrev main_call1_call0_call0_v105 : Ref sig .tc := ⟨.hbm, 197, rfl⟩
abbrev main_call1_call0_call0_c_26 : Ref sig .tc := ⟨.hbm, 198, rfl⟩
abbrev main_call1_call0_call0_v106 : Ref sig .tc := ⟨.hbm, 199, rfl⟩
abbrev main_call1_call0_call0_v107 : Ref sig .tc := ⟨.hbm, 200, rfl⟩
abbrev main_call1_call0_call0_v108 : Ref sig .tc := ⟨.hbm, 201, rfl⟩
abbrev main_call1_call0_call0_c_27 : Ref sig .tc := ⟨.hbm, 202, rfl⟩
abbrev main_call1_call0_call0_v109 : Ref sig .tc := ⟨.hbm, 203, rfl⟩
abbrev main_call1_call0_call0_v110 : Ref sig .tc := ⟨.hbm, 204, rfl⟩
abbrev main_call1_call0_call0_c_28 : Ref sig .tc := ⟨.hbm, 205, rfl⟩
abbrev main_call1_call0_call0_v111 : Ref sig .tc := ⟨.hbm, 206, rfl⟩
abbrev main_call1_call0_call0_v112 : Ref sig .tc := ⟨.hbm, 207, rfl⟩
abbrev main_call1_call0_call0_v113 : Ref sig .tc := ⟨.hbm, 208, rfl⟩
abbrev main_call1_call0_call0_v114 : Ref sig .tc := ⟨.hbm, 209, rfl⟩
abbrev main_call1_call0_call0_v115 : Ref sig .tc := ⟨.hbm, 210, rfl⟩
abbrev main_call1_call0_call0_c_29 : Ref sig .tc := ⟨.hbm, 211, rfl⟩
abbrev main_call1_call0_call0_v116 : Ref sig .tc := ⟨.hbm, 212, rfl⟩
abbrev main_call1_call0_call0_v117 : Ref sig .tc := ⟨.hbm, 213, rfl⟩
abbrev main_call1_call0_call0_c_30 : Ref sig .tc := ⟨.hbm, 214, rfl⟩
abbrev main_call1_call0_call0_v118 : Ref sig .tc := ⟨.hbm, 215, rfl⟩
abbrev main_call1_call0_call0_v119 : Ref sig .tc := ⟨.hbm, 216, rfl⟩
abbrev main_call1_call0_call0_v120 : Ref sig .tc := ⟨.hbm, 217, rfl⟩
abbrev main_call1_call0_call0_v121 : Ref sig .tc := ⟨.hbm, 218, rfl⟩
abbrev main_call1_call0_call0_v122 : Ref sig .tc := ⟨.hbm, 219, rfl⟩
abbrev main_call1_call0_call0_c_31 : Ref sig .tc := ⟨.hbm, 220, rfl⟩
abbrev main_call1_call0_call0_v123 : Ref sig .tc := ⟨.hbm, 221, rfl⟩
abbrev main_call1_call0_call0_v124 : Ref sig .tc := ⟨.hbm, 222, rfl⟩
abbrev main_call1_call0_call0_c_32 : Ref sig .tc := ⟨.hbm, 223, rfl⟩
abbrev main_call1_call0_call0_v125 : Ref sig .tc := ⟨.hbm, 224, rfl⟩
abbrev main_call1_call0_call0_v126 : Ref sig .tc := ⟨.hbm, 225, rfl⟩
abbrev main_call1_call0_call0_v127 : Ref sig .tc := ⟨.hbm, 226, rfl⟩
abbrev main_call1_call0_call0_v128 : Ref sig .tc := ⟨.hbm, 227, rfl⟩
abbrev main_call1_call0_call0_v129 : Ref sig .tc := ⟨.hbm, 228, rfl⟩
abbrev main_call1_call0_call0_c_33 : Ref sig .tc := ⟨.hbm, 229, rfl⟩
abbrev main_call1_call0_call0_v130 : Ref sig .tc := ⟨.hbm, 230, rfl⟩
abbrev main_call1_call0_call0_v131 : Ref sig .tc := ⟨.hbm, 231, rfl⟩
abbrev main_call1_call0_call0_c_34 : Ref sig .tc := ⟨.hbm, 232, rfl⟩
abbrev main_call1_call0_call0_v132 : Ref sig .tc := ⟨.hbm, 233, rfl⟩
abbrev main_call1_call0_call0_v133 : Ref sig .tc := ⟨.hbm, 234, rfl⟩
abbrev main_call1_call0_call0_v134 : Ref sig .tc := ⟨.hbm, 235, rfl⟩
abbrev main_call1_call0_call0_v135 : Ref sig .tc := ⟨.hbm, 236, rfl⟩
abbrev main_call1_call0_call0_v136 : Ref sig .tc := ⟨.hbm, 237, rfl⟩
abbrev main_call1_call0_call0_v137 : Ref sig .tc := ⟨.hbm, 238, rfl⟩
abbrev main_call1_call0_call0_v138 : Ref sig .tc := ⟨.hbm, 239, rfl⟩
abbrev main_call1_call0_call0_v139 : Ref sig .tc := ⟨.hbm, 240, rfl⟩
abbrev main_call1_call0_call0_c_35 : Ref sig .tc := ⟨.hbm, 241, rfl⟩
abbrev main_call1_call0_call0_v140 : Ref sig .tc := ⟨.hbm, 242, rfl⟩
abbrev main_call1_call0_call0_v141 : Ref sig .tc := ⟨.hbm, 243, rfl⟩
abbrev main_call1_call0_call0_v142 : Ref sig .tc := ⟨.hbm, 244, rfl⟩
abbrev main_call1_call0_call0_c_36 : Ref sig .tc := ⟨.hbm, 245, rfl⟩
abbrev main_call1_call0_call0_v143 : Ref sig .tc := ⟨.hbm, 246, rfl⟩
abbrev main_call1_call0_call0_v144 : Ref sig .tc := ⟨.hbm, 247, rfl⟩
abbrev main_call1_call0_call0_c_37 : Ref sig .tc := ⟨.hbm, 248, rfl⟩
abbrev main_call1_call0_call0_v145 : Ref sig .tc := ⟨.hbm, 249, rfl⟩
abbrev main_call1_call0_call0_v146 : Ref sig .tc := ⟨.hbm, 250, rfl⟩
abbrev main_call1_call0_call0_v147 : Ref sig .tc := ⟨.hbm, 251, rfl⟩
abbrev main_call1_call0_call0_v148 : Ref sig .tc := ⟨.hbm, 252, rfl⟩
abbrev main_call1_call0_call0_v149 : Ref sig .tc := ⟨.hbm, 253, rfl⟩
abbrev main_call1_call0_call0_c_38 : Ref sig .tc := ⟨.hbm, 254, rfl⟩
abbrev main_call1_call0_call0_v150 : Ref sig .tc := ⟨.hbm, 255, rfl⟩
abbrev main_call1_call0_call0_v151 : Ref sig .tc := ⟨.hbm, 256, rfl⟩
abbrev main_call1_call0_call0_c_39 : Ref sig .tc := ⟨.hbm, 257, rfl⟩
abbrev main_call1_call0_call0_v152 : Ref sig .tc := ⟨.hbm, 258, rfl⟩
abbrev main_call1_call0_call0_v153 : Ref sig .tc := ⟨.hbm, 259, rfl⟩
abbrev main_call1_call0_call0_v154 : Ref sig .tc := ⟨.hbm, 260, rfl⟩
abbrev main_call1_call0_call0_v155 : Ref sig .tc := ⟨.hbm, 261, rfl⟩
abbrev main_call1_call0_call0_v156 : Ref sig .tc := ⟨.hbm, 262, rfl⟩
abbrev main_call1_call0_call0_c_40 : Ref sig .tc := ⟨.hbm, 263, rfl⟩
abbrev main_call1_call0_call0_v157 : Ref sig .tc := ⟨.hbm, 264, rfl⟩
abbrev main_call1_call0_call0_v158 : Ref sig .tc := ⟨.hbm, 265, rfl⟩
abbrev main_call1_call0_call0_c_41 : Ref sig .tc := ⟨.hbm, 266, rfl⟩
abbrev main_call1_call0_call0_v159 : Ref sig .tc := ⟨.hbm, 267, rfl⟩
abbrev main_call1_call0_call0_v160 : Ref sig .tc := ⟨.hbm, 268, rfl⟩
abbrev main_call1_call0_call0_v161 : Ref sig .tc := ⟨.hbm, 269, rfl⟩
abbrev main_call1_call0_call0_v162 : Ref sig .tc := ⟨.hbm, 270, rfl⟩
abbrev main_call1_call0_call0_v163 : Ref sig .tc := ⟨.hbm, 271, rfl⟩
abbrev main_call1_call0_call0_c_42 : Ref sig .tc := ⟨.hbm, 272, rfl⟩
abbrev main_call1_call0_call0_v164 : Ref sig .tc := ⟨.hbm, 273, rfl⟩
abbrev main_call1_call0_call0_v165 : Ref sig .tc := ⟨.hbm, 274, rfl⟩
abbrev main_call1_call0_call0_c_43 : Ref sig .tc := ⟨.hbm, 275, rfl⟩
abbrev main_call1_call0_call0_v166 : Ref sig .tc := ⟨.hbm, 276, rfl⟩
abbrev main_call1_call0_call0_v167 : Ref sig .tc := ⟨.hbm, 277, rfl⟩
abbrev main_call1_call0_call0_v168 : Ref sig .tc := ⟨.hbm, 278, rfl⟩
abbrev main_call1_call0_call0_v169 : Ref sig .tc := ⟨.hbm, 279, rfl⟩
abbrev main_call1_call0_call0_v170 : Ref sig .tc := ⟨.hbm, 280, rfl⟩
abbrev main_call1_call0_v22_0 : Ref sig .tc := ⟨.hbm, 281, rfl⟩
abbrev main_call1_call0_call0_v172 : Ref sig .tc := ⟨.hbm, 282, rfl⟩
abbrev main_call1_call0_call0_v173 : Ref sig .tc := ⟨.hbm, 283, rfl⟩
abbrev main_call1_call0_call0_c_44 : Ref sig .tc := ⟨.hbm, 284, rfl⟩
abbrev main_call1_call0_call0_v174 : Ref sig .tc := ⟨.hbm, 285, rfl⟩
abbrev main_call1_call0_v22_1 : Ref sig .tc := ⟨.hbm, 286, rfl⟩
abbrev main_call1_call0_v23 : Ref sig .tc := ⟨.hbm, 287, rfl⟩
abbrev main_call1_call0_c_3 : Ref sig .tc := ⟨.hbm, 288, rfl⟩
abbrev main_call1_call0_v24 : Ref sig .tc := ⟨.hbm, 289, rfl⟩
abbrev main_call1_call0_v25 : Ref sig .tc := ⟨.hbm, 290, rfl⟩
abbrev main_call1_call0_c_4 : Ref sig .tc := ⟨.hbm, 291, rfl⟩
abbrev main_call1_call0_v26 : Ref sig .tc := ⟨.hbm, 292, rfl⟩
abbrev main_call1_call0_v27 : Ref sig .tc := ⟨.hbm, 293, rfl⟩
abbrev main_call1_call0_v28 : Ref sig .tc := ⟨.hbm, 294, rfl⟩
abbrev main_call1_call0_cst : Ref sig .tc := ⟨.hbm, 295, rfl⟩
abbrev main_call1_call0_v29 : Ref sig .tc := ⟨.hbm, 296, rfl⟩
abbrev main_call1_call0_v30 : Ref sig .tc := ⟨.hbm, 297, rfl⟩
abbrev main_call1_call0_v31 : Ref sig .tc := ⟨.hbm, 298, rfl⟩
abbrev main_call1_call0_v32 : Ref sig .tc := ⟨.hbm, 299, rfl⟩
abbrev main_call1_call0_v33 : Ref sig .tc := ⟨.hbm, 300, rfl⟩
abbrev main_call1_call0_v34 : Ref sig .tc := ⟨.hbm, 301, rfl⟩
abbrev main_call1_call0_v35 : Ref sig .tc := ⟨.hbm, 302, rfl⟩
abbrev main_call1_call0_v36 : Ref sig .tc := ⟨.hbm, 303, rfl⟩
abbrev main_call1_v0 : Ref sig .tc := ⟨.hbm, 304, rfl⟩
abbrev main_call1_v1 : Ref sig .tc := ⟨.hbm, 305, rfl⟩
abbrev main_call1_v2 : Ref sig .tc := ⟨.hbm, 306, rfl⟩
abbrev main_call1_v3 : Ref sig .tc := ⟨.hbm, 307, rfl⟩
abbrev main_v22 : Ref sig .tc := ⟨.hbm, 308, rfl⟩
abbrev main_v23 : Ref sig .tc := ⟨.hbm, 309, rfl⟩
abbrev main_call2_v0 : Ref sig .tc := ⟨.hbm, 310, rfl⟩
abbrev main_call2_cst : Ref sig .tc := ⟨.hbm, 311, rfl⟩
abbrev main_call2_c : Ref sig .tc := ⟨.hbm, 312, rfl⟩
abbrev main_call2_v1_0 : Ref sig .tc := ⟨.hbm, 313, rfl⟩
abbrev main_v24 : Ref sig .tc := ⟨.hbm, 314, rfl⟩
abbrev main_call3_v0 : Ref sig .tc := ⟨.hbm, 315, rfl⟩
abbrev main_call3_v1 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_v25 : Ref sig .tc := ⟨.hbm, 320, rfl⟩

abbrev nD : Nat := 1
abbrev τ : Topo := Topo.v7x

variable {F : FTy → Type} [FloatOps F]
-- ==== Proof.NoiseRun.lean ====
/- The first call's kernel body, run once: the list of the rectangles its 49 stores write and what they write, found
   by running the body on any staging buffer, and the fact that these rectangles cover the whole block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- (the run's proof term is large: the definition's epilogue — `abstractNestedProofs` — walks it past the default budget)
set_option maxHeartbeats 2188000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def noiseRun (c : Dev nD) (i : grid0.Coords) (arg1 : Memref sig .tc .vmem S8x100000 .f32) (harg1 : arg1.IsWhole)
     :
    { L0 : List (View.Piece (Elt F) S8x100000 .f32) //
      ∀ (E : Set ℕ) (K : PUnit → sProp 𝕄),
        iprop((∃ d, owns (c : Thread nD τ) arg1 fullShare d)
            ∗ (iprop((∃ f, arg1.view.loc (c : Thread nD τ) ↦[arg1.view.set]{fullShare} arg1.view.writes (Elt F) f L0)) -∗ K ⟨⟩))
          ⊢ wp frame (wpE (defs₀ (F := F)) Variants.none c none) E (cc0__noise_body i arg1 harg1) K } := by
  refine ⟨?_, fun E K => ?run⟩
  case run =>
    simp only [cc0__noise_body_eq_skeleton]; unfold cc0__noise_body_skel
    simp only [k0_part221_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part222_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part223_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part224_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%d0, %f0, -, H0⟩, Hk⟩
    sl_exec
    sl_step
    iapply Hk
    iexists _; iexact H0

/-- The run's pieces for output 0 are of SEVERAL sizes (49 stores of `S8x1696`, `S8x2048`): cut into blocks of `![8, 32]` they tile its block (checked by the kernel's evaluation: Lib/Ring.lean `Piece.tiledBy`), so they cover it. -/
theorem noiseRun_cover (c : Dev nD) (i : grid0.Coords) (arg1 : Memref sig .tc .vmem S8x100000 .f32) (harg1 : arg1.IsWhole)
     (y : S8x100000.Idx) :
    ∃ pc ∈ (noiseRun (F := F) c i arg1 harg1).1, y ∈ pc.1.set :=
  View.cover_of_tiledBy (noiseRun (F := F) c i arg1 harg1).1 ![8, 32] (by sl_kernel_rfl) y

end Cert.KernelIdeal.Hand
-- ==== Proof.Gumbel.lean ====
/- The random numbers as plain functions of a 32-bit word: the threefry-2x32 cipher under the key (0, 42), a word of
   its output as a number in [0, 1), and the Gumbel number made from it; one definition per element, one per vector. -/
module

public import proofs.«01_k».proof.Proof.Gen.KernelIdeal

@[expose] public section

noncomputable section

namespace Cert.Draw

open Idealize.ShloMosaic

/-! ## One word -/

/-- A word rotated left by `r` places, `l = 32 - r`. -/
def rot (r l x : BitVec 32) : BitVec 32 := IntOp.ori (IntOp.shli .vector x r) (IntOp.shrui .vector x l)

/-- One round of the cipher: add, rotate, exclusive or. -/
def round (r l : BitVec 32) (p : BitVec 32 × BitVec 32) : BitVec 32 × BitVec 32 :=
  (IntOp.addi p.1 p.2, IntOp.xori (IntOp.addi p.1 p.2) (rot r l p.2))

/-- The four rounds with the first set of rotations; -/
def roundsA (p : BitVec 32 × BitVec 32) : BitVec 32 × BitVec 32 :=
  round 6#32 26#32 (round 26#32 6#32 (round 15#32 17#32 (round 13#32 19#32 p)))

/-- and with the second. -/
def roundsB (p : BitVec 32 × BitVec 32) : BitVec 32 × BitVec 32 :=
  round 24#32 8#32 (round 16#32 16#32 (round 29#32 3#32 (round 17#32 15#32 p)))

/-- A key injection: two key words and the number of the injection. -/
def inject (k k' j : BitVec 32) (p : BitVec 32 × BitVec 32) : BitVec 32 × BitVec 32 :=
  (IntOp.addi p.1 k, IntOp.addi (IntOp.addi p.2 k') j)

/-- The cipher after the first key addition. -/
def rounds (p : BitVec 32 × BitVec 32) : BitVec 32 × BitVec 32 :=
  inject 466689008#32 0#32 5#32 <| roundsA <| inject 42#32 466689008#32 4#32 <| roundsB <| inject 0#32 42#32 3#32 <|
    roundsA <| inject 466689008#32 0#32 2#32 <| roundsB <| inject 42#32 466689008#32 1#32 <| roundsA p

/-- The random word of the counter `n`: both output words of the cipher, combined. -/
def bits (n : BitVec 32) : BitVec 32 :=
  IntOp.xori (rounds (0#32, IntOp.addi n 42#32)).1 (rounds (0#32, IntOp.addi n 42#32)).2

/-- The word's top 23 bits as the mantissa of a number in [1, 2). -/
def mantissa (w : BitVec 32) : BitVec 32 := IntOp.ori (IntOp.shrui .vector w 9#32) 1065353216#32

variable {F : FTy → Type} [FloatOps F]

/-- The Gumbel number of the counter `n`. -/
def gumbel (n : BitVec 32) : F .f32 :=
  FloatOps.subf (Scalar.ofBits .f32 0x00000000#32) (FloatOps.log (FloatOps.subf (Scalar.ofBits .f32 0x00000000#32) (FloatOps.log
    (FloatOps.maximumf (Scalar.ofBits .f32 0x00800000#32)
      (FloatOps.addf
        (FloatOps.mulf (FloatOps.subf (FloatOps.ofBits .f32 (mantissa (bits n))) (Scalar.ofBits .f32 0x3F800000#32))
          (Scalar.subf (Scalar.ofBits .f32 0x3F800000#32) (Scalar.ofBits .f32 0x00800000#32)))
        (Scalar.ofBits .f32 0x00800000#32))))))

/-! ## A vector of words -/

variable (s : Shape)

def vrot (r l : BitVec 32) (x : IVec s 32) : IVec s 32 := ori (shli x (broadcast s r)) (shrui x (broadcast s l))

def vround (r l : BitVec 32) (p : IVec s 32 × IVec s 32) : IVec s 32 × IVec s 32 :=
  (addi p.1 p.2, xori (addi p.1 p.2) (vrot s r l p.2))

def vroundsA (p : IVec s 32 × IVec s 32) : IVec s 32 × IVec s 32 :=
  vround s 6#32 26#32 (vround s 26#32 6#32 (vround s 15#32 17#32 (vround s 13#32 19#32 p)))

def vroundsB (p : IVec s 32 × IVec s 32) : IVec s 32 × IVec s 32 :=
  vround s 24#32 8#32 (vround s 16#32 16#32 (vround s 29#32 3#32 (vround s 17#32 15#32 p)))

def vinject (k k' j : BitVec 32) (p : IVec s 32 × IVec s 32) : IVec s 32 × IVec s 32 :=
  (addi p.1 (broadcast s k), addi (addi p.2 (broadcast s k')) (broadcast s j))

def vrounds (p : IVec s 32 × IVec s 32) : IVec s 32 × IVec s 32 :=
  vinject s 466689008#32 0#32 5#32 <| vroundsA s <| vinject s 42#32 466689008#32 4#32 <| vroundsB s <|
    vinject s 0#32 42#32 3#32 <| vroundsA s <| vinject s 466689008#32 0#32 2#32 <| vroundsB s <|
    vinject s 42#32 466689008#32 1#32 <| vroundsA s p

def vbits (n : IVec s 32) : IVec s 32 :=
  xori (vrounds s (broadcast s 0#32, addi n (broadcast s 42#32))).1 (vrounds s (broadcast s 0#32, addi n (broadcast s 42#32))).2

/-- The Gumbel numbers of a vector of counters, operation by operation. -/
def vgumbel (n : IVec s 32) : FVec F s .f32 :=
  subf (broadcast s (Scalar.ofBits .f32 0x00000000#32)) (log (subf (broadcast s (Scalar.ofBits .f32 0x00000000#32)) (log
    (maximumf (broadcast s (Scalar.ofBits .f32 0x00800000#32))
      (addf
        (mulf (subf (bitcastToFloat .f32 (ori (shrui (vbits s n) (broadcast s 9#32)) (broadcast s 1065353216#32)))
            (broadcast s (Scalar.ofBits .f32 0x3F800000#32)))
          (broadcast s (Scalar.subf (Scalar.ofBits .f32 0x3F800000#32) (Scalar.ofBits .f32 0x00800000#32))))
        (broadcast s (Scalar.ofBits .f32 0x00800000#32)))))))

/-- A pair of vectors at one index. -/
def at2 {s : Shape} (p : IVec s 32 × IVec s 32) (y : s.Idx) : BitVec 32 × BitVec 32 := (p.1 y, p.2 y)

theorem vround_at (r l : BitVec 32) (p : IVec s 32 × IVec s 32) (y : s.Idx) : at2 (vround s r l p) y = round r l (at2 p y) := rfl
theorem vinject_at (k k' j : BitVec 32) (p : IVec s 32 × IVec s 32) (y : s.Idx) :
    at2 (vinject s k k' j p) y = inject k k' j (at2 p y) := rfl

theorem vrounds_at (p : IVec s 32 × IVec s 32) (y : s.Idx) : at2 (vrounds s p) y = rounds (at2 p y) := by
  simp only [vrounds, rounds, vroundsA, vroundsB, roundsA, roundsB, vround_at, vinject_at]

theorem vbits_at (n : IVec s 32) (y : s.Idx) : vbits s n y = bits (n y) := by
  have h := vrounds_at s (broadcast s 0#32, addi n (broadcast s 42#32)) y
  have h1 := congrArg Prod.fst h
  have h2 := congrArg Prod.snd h
  exact congrArg₂ IntOp.xori h1 h2

theorem vgumbel_at (n : IVec s 32) (y : s.Idx) : (vgumbel s n : FVec F s .f32) y = gumbel (n y) := by
  have h := vbits_at s n y
  unfold gumbel mantissa
  rw [← h]
  rfl

end Cert.Draw
-- ==== Proof.NoisePieces.lean ====
/- The 49 pieces the first call's body stores are the Gumbel numbers of the counters at their places: the list of pieces
   in closed form, and what they read back as. -/
module

public import proofs.«01_k».proof.Proof.NoiseRun
public import proofs.«01_k».proof.Proof.Gumbel

@[expose] public section

set_option maxRecDepth 65536

noncomputable section

namespace Cert.KernelIdeal.Hand

open Cert.KernelIdeal.Gen
open Idealize.ShloMosaic Idealize.ShloMosaic.TcCoe Idealize.ShloMosaic.Tactic

variable {F : FTy → Type} [FloatOps F]

/-- The rectangle of the `k`-th full chunk lies in the block. -/
theorem chunk_inb (k : Nat) (h : k < 48) : ∀ a, (![0, 2048 * k] : Fin 2 → Nat) a + (![8, 2048] : Fin 2 → Nat) a ≤ S8x100000.size a := by
  intro a
  fin_cases a
  · exact Nat.le_refl 8
  · show 2048 * k + 2048 ≤ 100000; omega

/-- The first `n` full chunks, the last one first. -/
def fullChunks (i : grid0.Coords) : (n : Nat) → n ≤ 48 → List (View.Piece (Elt F) S8x100000 .f32)
  | 0, _ => []
  | n + 1, h => ⟨Rect.unit (s := S8x100000) ![0, 2048 * n] ![8, 2048] (chunk_inb n h),
      Draw.vgumbel (F := F) S8x2048 (addi (addi (broadcastTo S8x2048 (k0_pay2 i) broadcasts_S8x1_S8x2048)
        (iota .tc S8x2048 32 [1] iota_S8x2048_d1_w32)) (broadcast S8x2048 (BitVec.ofNat 32 (2048 * n))))⟩
      :: fullChunks i n (Nat.le_of_succ_le h)

/-- All the chunks: the short one at the end of the row, then the full ones. -/
def chunks (i : grid0.Coords) : List (View.Piece (Elt F) S8x100000 .f32) :=
  ⟨Rect.unit (s := S8x100000) ![0, 98304] ![8, 1696] inb_S8x100000_S8x1696_0_98304,
      Draw.vgumbel (F := F) S8x1696 (addi (addi (broadcastTo S8x1696 (k0_pay2 i) broadcasts_S8x1_S8x1696)
        (iota .tc S8x1696 32 [1] iota_S8x1696_d1_w32)) (broadcast S8x1696 98304#32))⟩
    :: fullChunks i 48 (Nat.le_refl 48)

/-- The run's pieces are these. -/
theorem noiseRun_eq (c : Dev nD) (i : grid0.Coords) (arg1 : Memref sig .tc .vmem S8x100000 .f32) (harg1 : arg1.IsWhole) :
    (noiseRun (F := F) c i arg1 harg1).1 = chunks i := by
  sl_kernel_rfl

/-! ## What the pieces read back as -/

/-- The block of point `i`: at row `r` and column `j` the Gumbel number of the counter `(8 i + r) · 100000 + j`. -/
def noiseBlk (i : grid0.Coords) : Vec F S8x100000 .f32 := fun y =>
  Draw.gumbel (BitVec.ofNat 32 (((i 0).val * 8 + (y 0).val) * 100000 + (y 1).val))

/-- The row's part of the counter. -/
theorem rowBase_at (i : grid0.Coords) (y : S8x1.Idx) :
    k0_pay2 i y = BitVec.ofNat 32 (((i 0).val * 8 + (y 0).val) * 100000) := by
  rw [BitVec.ofNat_mul, BitVec.ofNat_add, BitVec.ofNat_mul]
  show (BitVec.ofNat 32 (i 0).val * 8#32 + BitVec.ofNat 32 (0 * 8 + (y 0).val)) * 100000#32 = _
  rw [Nat.zero_mul, Nat.zero_add]

/-- The counter of an element of a chunk, from the row's part, the column within the chunk and the chunk's start. -/
theorem counter_eq (a j o : Nat) :
    IntOp.addi (IntOp.addi (BitVec.ofNat 32 a) (BitVec.ofNat 32 (0 + j))) (BitVec.ofNat 32 o) = BitVec.ofNat 32 (a + (o + j)) := by
  show BitVec.ofNat 32 a + BitVec.ofNat 32 (0 + j) + BitVec.ofNat 32 o = _
  rw [← BitVec.ofNat_add, ← BitVec.ofNat_add]
  congr 1
  omega

theorem fullChunks_at (i : grid0.Coords) : (n : Nat) → (h : n ≤ 48) → ∀ pc ∈ fullChunks (F := F) i n h,
    ∀ x, pc.2 x = noiseBlk i (pc.1.emb x)
  | 0, _, pc, hm, _ => absurd hm List.not_mem_nil
  | n + 1, h, pc, hm, x => by
    rcases List.mem_cons.mp hm with rfl | hm
    · refine (Draw.vgumbel_at S8x2048 _ x).trans (congrArg Draw.gumbel ?_)
      refine (congrArg (fun w => IntOp.addi (IntOp.addi w _) _) (rowBase_at i _)).trans ?_
      refine (counter_eq _ (x 1).val (2048 * n)).trans ?_
      have e0 : ((Rect.unit (s := S8x100000) ![0, 2048 * n] ![8, 2048] (chunk_inb n h)).emb x 0).val = (x 0).val := by
        show 0 + 1 * (x 0).val = _; omega
      have e1 : ((Rect.unit (s := S8x100000) ![0, 2048 * n] ![8, 2048] (chunk_inb n h)).emb x 1).val = 2048 * n + (x 1).val := by
        show 2048 * n + 1 * (x 1).val = _; omega
      rw [e0, e1]
      rfl
    · exact fullChunks_at i n _ pc hm x

theorem chunks_at (i : grid0.Coords) (pc) (hm : pc ∈ chunks (F := F) i) (x) : pc.2 x = noiseBlk i (pc.1.emb x) := by
  rcases List.mem_cons.mp hm with rfl | hm
  · refine (Draw.vgumbel_at S8x1696 _ x).trans (congrArg Draw.gumbel ?_)
    refine (congrArg (fun w => IntOp.addi (IntOp.addi w _) _) (rowBase_at i _)).trans ?_
    refine (counter_eq _ (x 1).val 98304).trans ?_
    have e0 : ((Rect.unit (s := S8x100000) ![0, 98304] ![8, 1696] inb_S8x100000_S8x1696_0_98304).emb x 0).val = (x 0).val := by
      show 0 + 1 * (x 0).val = _; omega
    have e1 : ((Rect.unit (s := S8x100000) ![0, 98304] ![8, 1696] inb_S8x100000_S8x1696_0_98304).emb x 1).val = 98304 + (x 1).val := by
      show 98304 + 1 * (x 1).val = _; omega
    rw [e0, e1]
    rfl
  · exact fullChunks_at i 48 _ pc hm x

/-- Pieces that all agree with one function read back as it wherever one of them lies. -/
theorem canon_of_agree {s : Shape} {e : EltTy} (g : s.Idx → Elt F e) : (L : List (View.Piece (Elt F) s e)) →
    (∀ pc ∈ L, ∀ x, pc.2 x = g (pc.1.emb x)) → ∀ y, (∃ pc ∈ L, y ∈ pc.1.set) → View.canon L y = g y
  | [], _, _, h => by obtain ⟨_, hm, _⟩ := h; exact absurd hm List.not_mem_nil
  | p :: L, hg, y, h => by
    by_cases hy : y ∈ p.1.set
    · obtain ⟨x, rfl⟩ : ∃ x, p.1.emb x = y := p.1.exists_idx_of_mem hy
      exact (View.canon_cons_emb p.1 p.2 L x).trans (hg p (List.mem_cons_self ..) x)
    · rw [View.canon_cons_of_not_mem p L hy]
      refine canon_of_agree g L (fun pc hm => hg pc (List.mem_cons_of_mem _ hm)) y ?_
      obtain ⟨pc, hm, hpc⟩ := h
      rcases List.mem_cons.mp hm with rfl | hm
      · exact absurd hpc hy
      · exact ⟨pc, hm, hpc⟩

/-- What the body leaves in its staging buffer, whatever the buffer held. -/
theorem noiseRun_read (c : Dev nD) (i : grid0.Coords) (arg1 : Memref sig .tc .vmem S8x100000 .f32) (harg1 : arg1.IsWhole) (f) :
    arg1.view.read (Elt F) (arg1.view.writes (Elt F) f (noiseRun (F := F) c i arg1 harg1).1) = noiseBlk i := by
  rw [View.read_writes_eq_canon _ _ _ (noiseRun_cover c i arg1 harg1)]
  funext y
  refine canon_of_agree (noiseBlk i) _ ?_ y (noiseRun_cover c i arg1 harg1 y)
  rw [noiseRun_eq]
  exact chunks_at i

end Cert.KernelIdeal.Hand
-- ==== Proof.Launched.lean ====
/- The two calls and the host operations between them as one run: each call's loop over its grid points with what every
   point leaves in its staging buffers, what every buffer holds at each boundary, and the run of the whole program. The set-up
   follows the frame the proof generator prints; the first call's contents are stated by `noiseBlk`. -/
module

public import proofs.«01_k».proof.Proof.NoisePieces
public import Idealize.ShloMosaic.Lib.Pipeline.RegionsLoop
public import Idealize.ShloMosaic.Lib.Pipeline.FrameSuffix
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__noise_body` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The staging buffers -/

/-- One staging buffer of output window 0, through which its contents are stated (`View.read_writes_of_cover`: the
    choice does not matter). -/
abbrev VO0_0 : View sig .tc .vmem S8x100000 .f32 := (Memref.whole cc0_stg0_0 : Memref sig .tc .vmem S8x100000 .f32).view
/-- Each window's current staging memref at point `t`, spelled as the pipeline passes it (`bodyAt0`), and its wholeness. -/
abbrev ms0_0 (t : Fin cfg0.N) : Memref sig .tc .vmem S8x100000 .f32 := win0_0.stage (cfg0.slots t 0)
abbrev hs0_0 (t : Fin cfg0.N) : (ms0_0 t).IsWhole := hstage0_0 ((cfg0.slots t 0).cast nbuf0_0)

/-! ## The pipeline's proof data -/

/-- The proof data of pipeline 0 on core `c`: the arrays as the region finds them (`V`); after the body at
    point `t` each input's buffer at its block and the output's at `noiseBlk`; the class's invariant; nothing owed; full
    shares. -/
def dat0 (c : Dev nD) : Dat τ (Elt F) Unit ℕ (UR sig nD τ) ℕ cfg0 c where
  A w := V c (Pipeline.arrRef spec0 w)
  after w t := match w with
    | ⟨0, _⟩ => (noiseBlk (grid0.coords t))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = (noiseBlk (grid0.coords t)) := by dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩⟩
  iapply ((noiseRun c (grid0.coords t) _ _).2 Set.univ _)
  isplitl [H0]; · iexists _; iexact H0
  iintro ⟨⟨%e0, H0⟩⟩
  isplitl [HΦ]; · iexact HΦ
  isplitl [Ho]; · iexact Ho
  unfold owns; iexists _; isplitr
  swap; · iexact H0
  ipureintro; exact noiseRun_read c _ _ _ _

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__sample_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S16x100000 := Rect.unit (s := S16x100000) ![0, 0] S16x100000.size inb_S16x100000_S16x100000_0_0

/-! ## What the body leaves in each output window's buffer -/

/-- Window 2's staging buffer after the body, from the input windows' blocks: its 1 store as pieces, LAST
    FIRST. -/
def out1_2 (x0 : Vec F S16x100000 .f32) (x1 : Vec F S16x100000 .f32) : Vec F S16x100000 .f32 :=
  View.canon [⟨r1_0, k1_pay1 (View.ld x0 r1_0) (View.ld x1 r1_0)⟩]

/-- Its stores tile the buffer (checked by evaluation), so they cover it. -/
theorem cover1_2 (p0 : Vec F S16x100000 .f32) (y : S16x100000.Idx) :
    ∃ pc ∈ ([⟨r1_0, p0⟩] : List (View.Piece (Elt F) S16x100000 .f32)), y ∈ pc.1.set :=
  View.cover_of_tiled [⟨r1_0, p0⟩] S16x100000.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S16x100000 .f32) (harg1 : arg1.IsWhole) (arg2 : Memref sig .tc .vmem S16x100000 .f32) (harg2 : arg2.IsWhole) (arg3 : Memref sig .tc .vmem S16x100000 .f32) (harg3 : arg3.IsWhole)
    (x0 : Vec F S16x100000 .f32) (x1 : Vec F S16x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__sample_body i arg1 harg1 arg2 harg2 arg3 harg3) K := by
  simp only [cc1__sample_body_eq_skeleton]; unfold cc1__sample_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0]

/-! ## The host stretches: none allocates a buffer, and each lists the references its operations write, in order,
    so that a reference absent from the list keeps its contents across the stretch -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every execution ends without a fault, with the result array at the
    last boundary's contents, the argument as launched, and every counter at zero. -/
theorem run : θ_run defs (onTc (τ := τ) (main (F := F))) ⟨m, fun _ => 0, ρ⟩ (fun r => (∀ c : Dev nD,
      r.2.mem ((c.tc : Thread nD τ).loc main_v3) = W4 m ρ c (Proc.devRef .tc main_v3) ∧
      r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)), (h c _ (mem_uc main_arg0 (by decide))).trans (W4_main_arg0 m ρ c)⟩), funext fun g => hz g (.inr (no_unscoped g.2))⟩)

/-- The run without the result: the argument ends as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run m ρ)

end Cert.KernelIdeal.Hand
-- ==== Proof.Row.lean ====
/- One row of the result as plain mathematics on the extended reals: the row's scores from its logits and its random
   numbers, and the row that holds a one at the first greatest score and zeros elsewhere. With the two ways the programs
   find that place: the reference's fold over (score, place) pairs, and the least place whose score equals the maximum. -/
module

public import proofs.«01_k».proof.Proof.Gen.ReferenceIdeal
public import Idealize.ShloMosaic.Lib.IdealHost
public import Idealize.ShloMosaic.Lib.Tactic

@[expose] public section

noncomputable section

namespace Cert.Row

open Idealize.ShloMosaic

/-- The greatest entry of a row; minus infinity of an empty one. -/
def top (v : Fin 100000 → EReal) : EReal := Finset.univ.fold max (Ideal.ofBits .f32 0xFF800000#32) v

/-- The exponential of a row's entry, the row's maximum taken off first. -/
def expo (x : Fin 100000 → EReal) (k : Fin 100000) : EReal := Ideal.exp (x k - top x)

/-- The scores of a row: the logarithm of its softmax, kept between the two bounds, and the random number. -/
def score (x g : Fin 100000 → EReal) (k : Fin 100000) : EReal :=
  g k + Ideal.log (min (Ideal.ofBits .f32 0x3F800000#32) (max (Ideal.ofBits .f32 0x2EDBE6FF#32)
    (Ideal.div (expo x k) (∑ k', expo x k'))))

/-- `k` is the first place of the row's greatest entry. -/
def First (v : Fin 100000 → EReal) (k : Fin 100000) : Prop := (∀ k', v k' ≤ v k) ∧ ∀ k', k' < k → v k' < v k

open Classical in
/-- One at the first place of the row's greatest entry, zero elsewhere. -/
def hot (v : Fin 100000 → EReal) (k : Fin 100000) : EReal := if First v k then 1 else 0

theorem exists_first (v : Fin 100000 → EReal) : ∃ k, First v k := by
  classical
  obtain ⟨k₁, -, h₁⟩ := Finset.exists_max_image Finset.univ v ⟨⟨0, by omega⟩, Finset.mem_univ _⟩
  let S := Finset.univ.filter fun k => ∀ k', v k' ≤ v k
  have hS : S.Nonempty := ⟨k₁, Finset.mem_filter.2 ⟨Finset.mem_univ _, fun k' => h₁ k' (Finset.mem_univ _)⟩⟩
  have hm := Finset.min'_mem S hS
  refine ⟨S.min' hS, (Finset.mem_filter.1 hm).2, fun k' hk' => lt_of_le_of_ne ((Finset.mem_filter.1 hm).2 k') fun e => ?_⟩
  exact absurd (Finset.min'_le S k' (Finset.mem_filter.2 ⟨Finset.mem_univ _, fun k'' => ((Finset.mem_filter.1 hm).2 k'').trans e.ge⟩))
    (not_le.2 hk')

theorem First.unique {v : Fin 100000 → EReal} {k k' : Fin 100000} (h : First v k) (h' : First v k') : k = k' := by
  rcases lt_trichotomy k k' with hlt | rfl | hlt
  · exact absurd (h.1 k') (not_le.2 (h'.2 k hlt))
  · rfl
  · exact absurd (h'.1 k) (not_le.2 (h.2 k' hlt))

/-- The word of a place. -/
def word (k : Fin 100000) : BitVec 32 := BitVec.ofNat 32 k.val

theorem word_toInt (k : Fin 100000) : (word k).toInt = (k.val : Int) := by
  have := k.isLt
  unfold word
  rw [BitVec.toInt_eq_toNat_cond, BitVec.toNat_ofNat]
  omega

theorem word_inj {k k' : Fin 100000} (h : word k = word k') : k = k' := by
  have := congrArg BitVec.toInt h
  rw [word_toInt, word_toInt] at this
  exact Fin.ext (by omega)

/-- A comparison of a place with the first place, as the row's entry. -/
theorem hot_eq {v : Fin 100000 → EReal} {k₀ : Fin 100000} (h₀ : First v k₀) (k : Fin 100000) :
    hot v k = if word k = word k₀ then 1 else 0 := by
  unfold hot
  by_cases hk : k = k₀
  · subst hk; rw [if_pos h₀, if_pos rfl]
  · rw [if_neg fun h => hk (h.unique h₀), if_neg fun h => hk (word_inj h)]

theorem ofBits_neg_inf : Ideal.ofBits .f32 0xFF800000#32 = ⊥ := by simp [Ideal.ofBits, Ideal.ieee]

theorem top_eq {v : Fin 100000 → EReal} {k₀ : Fin 100000} (h₀ : First v k₀) : top v = v k₀ := by
  unfold top
  rw [ofBits_neg_inf]
  exact le_antisymm (Finset.fold_max_le _ |>.2 ⟨bot_le, fun k _ => h₀.1 k⟩)
    (Finset.le_fold_max _ |>.2 (.inr ⟨k₀, Finset.mem_univ _, le_rfl⟩))

/-! ### The fold over pairs -/

/-- `q` is at least as good as `p`: a greater score, or the same score at a place no later. -/
def le (p q : EReal × BitVec 32) : Prop := p.1 < q.1 ∨ p.1 = q.1 ∧ q.2.toInt ≤ p.2.toInt

theorem le_refl (p : EReal × BitVec 32) : le p p := .inr ⟨rfl, _root_.le_refl _⟩

theorem le_trans {p q r : EReal × BitVec 32} (h : le p q) (h' : le q r) : le p r := by
  rcases h with h | ⟨e, h⟩ <;> rcases h' with h' | ⟨e', h'⟩
  · exact .inl (h.trans h')
  · exact .inl (e' ▸ h)
  · exact .inl (e ▸ h')
  · exact .inr ⟨e.trans e', h'.trans h⟩

/-- The reference's choice at the extended reals. -/
abbrev red : Ideal .f32 × BitVec 32 → Ideal .f32 × BitVec 32 → Ideal .f32 × BitVec 32 :=
  Cert.ReferenceIdeal.reducer_argmax_f32_i32 (F := Ideal)

open Classical in
/-- The reference's choice between two pairs. -/
theorem reducer_eq (a b : Ideal .f32 × BitVec 32) :
    red a b
      = if (b.1 : EReal) < a.1 ∨ (a.1 : EReal) = b.1 ∧ a.2.toInt < b.2.toInt then a else b := by
  have e1 : FloatOps.cmpf .ogt a.1 b.1 = BitVec.ofBool (decide ((b.1 : EReal) < a.1)) := rfl
  have e2 : FloatOps.cmpf .une a.1 a.1 = BitVec.ofBool (decide ((a.1 : EReal) ≠ a.1)) := rfl
  have e3 : FloatOps.cmpf .oeq a.1 b.1 = BitVec.ofBool (decide ((a.1 : EReal) = b.1)) := rfl
  have e4 : IntOp.cmpi .slt a.2 b.2 = BitVec.ofBool (decide (a.2.toInt < b.2.toInt)) := rfl
  unfold red Cert.ReferenceIdeal.reducer_argmax_f32_i32
  simp only [e1, e2, e3, e4, ne_eq, not_true_eq_false, decide_false]
  by_cases h1 : (b.1 : EReal) < a.1
  · simp [h1, h1.ne', Scalar.select, IntOp.ori, IntOp.andi]
  · by_cases h2 : (a.1 : EReal) = b.1
    · by_cases h3 : a.2.toInt < b.2.toInt
      · simp [h2, h3, Scalar.select, IntOp.ori, IntOp.andi]
        exact Prod.ext h2.symm rfl
      · simp [h2, h3, Scalar.select, IntOp.ori, IntOp.andi]
    · simp [h1, h2, Scalar.select, IntOp.ori, IntOp.andi]

theorem reducer_spec (a b : Ideal .f32 × BitVec 32) :
    (red a b = a ∨ red a b = b)
      ∧ le a (red a b)
      ∧ le b (red a b) := by
  rw [reducer_eq]
  split
  · next h =>
    refine ⟨.inl rfl, le_refl _, ?_⟩
    rcases h with h | ⟨e, h⟩
    · exact .inl h
    · exact .inr ⟨e.symm, h.le⟩
  · next h =>
    refine ⟨.inr rfl, ?_, le_refl _⟩
    rw [not_or, not_and, not_lt, not_lt] at h
    rcases lt_or_eq_of_le h.1 with h1 | h1
    · exact .inl h1
    · exact .inr ⟨h1, h.2 h1⟩

theorem foldl_spec (l : List (Ideal .f32 × BitVec 32)) (i : Ideal .f32 × BitVec 32) :
    (l.foldl red i = i ∨ l.foldl red i ∈ l)
      ∧ le i (l.foldl red i)
      ∧ ∀ p ∈ l, le p (l.foldl red i) := by
  induction l generalizing i with
  | nil => exact ⟨.inl rfl, le_refl _, fun p hp => absurd hp List.not_mem_nil⟩
  | cons a l ih =>
    obtain ⟨hm, hi, hl⟩ := ih (red i a)
    obtain ⟨hs, h1, h2⟩ := reducer_spec i a
    rw [List.foldl_cons]
    refine ⟨?_, le_trans h1 hi, ?_⟩
    · rcases hm with hm | hm
      · rcases hs with hs | hs
        · exact .inl (hm.trans hs)
        · exact .inr (by rw [hm, hs]; exact List.mem_cons_self)
      · exact .inr (List.mem_cons_of_mem _ hm)
    · intro p hp
      rcases List.mem_cons.1 hp with rfl | hp
      · exact le_trans h2 hi
      · exact hl p hp

/-- The fold over a row's pairs, in any order, from minus infinity at place zero, ends at the first greatest. -/
theorem argmax_fold {v : Fin 100000 → EReal} {k₀ : Fin 100000} (h₀ : First v k₀) (l : List (Ideal .f32 × BitVec 32))
    (hl : ∀ p, p ∈ l ↔ ∃ k, p = (v k, word k)) :
    (l.foldl red ((Ideal.ofBits .f32 0xFF800000#32 : Ideal .f32), 0#32)).2 = word k₀ := by
  rw [ofBits_neg_inf]
  obtain ⟨hm, -, ha⟩ := foldl_spec l ((⊥ : EReal), 0#32)
  have hk := ha _ ((hl _).2 ⟨k₀, rfl⟩)
  have hmem : ∃ k, l.foldl red ((⊥ : Ideal .f32), 0#32) = (v k, word k) := by
    rcases hm with hm | hm
    · refine ⟨⟨0, by omega⟩, hm.trans (Prod.ext ?_ rfl)⟩
      have h0 := ha _ ((hl _).2 ⟨⟨0, by omega⟩, rfl⟩)
      rw [hm] at h0
      rcases h0 with h0 | ⟨h0, -⟩
      · exact absurd h0 not_lt_bot
      · exact h0.symm
    · exact (hl _).1 hm
  obtain ⟨k, e⟩ := hmem
  rw [e] at hk ⊢
  rcases hk with hk | ⟨hk, hw⟩
  · exact absurd (h₀.1 k) (not_le.2 hk)
  · rw [word_toInt, word_toInt] at hw
    rcases lt_or_eq_of_le (show k ≤ k₀ by exact Fin.le_def.2 (by simpa using hw)) with hlt | rfl
    · exact absurd (h₀.2 k hlt) (by rw [show v k = v k₀ from hk.symm]; exact lt_irrefl _)
    · rfl

/-! ### The least place -/

theorem minsi_eq_left {a b : BitVec 32} (h : a.toInt ≤ b.toInt) : IntOp.minsi a b = a := by
  unfold IntOp.minsi
  rw [BitVec.slt]
  split
  · rfl
  · next hn => exact BitVec.eq_of_toInt_eq (le_antisymm (by simpa using hn) h)

theorem minsi_fold {ι : Type} [DecidableEq ι] (s : Finset ι) (f : ι → BitVec 32) (i w : BitVec 32) (hi : w.toInt ≤ i.toInt)
    (hf : ∀ k ∈ s, w.toInt ≤ (f k).toInt) : IntOp.minsi w (s.fold IntOp.minsi i f) = w := by
  induction s using Finset.induction_on with
  | empty => exact minsi_eq_left hi
  | insert a s ha ih =>
    rw [Finset.fold_insert ha, ← Std.Associative.assoc (op := IntOp.minsi (w := 32)),
      minsi_eq_left (hf a (Finset.mem_insert_self _ _)), ih fun k hk => hf k (Finset.mem_insert_of_mem hk)]

open Classical in
/-- The least of the places whose score is the maximum (the number of places standing for all others). -/
theorem argmin_fold {v : Fin 100000 → EReal} {k₀ : Fin 100000} (h₀ : First v k₀) :
    Finset.univ.fold IntOp.minsi 2147483647#32 (fun k => if v k = top v then word k else 100000#32) = word k₀ := by
  rw [top_eq h₀, ← Finset.insert_erase (Finset.mem_univ k₀), Finset.fold_insert (Finset.notMem_erase _ _), if_pos rfl]
  have hk₀ := k₀.isLt
  refine minsi_fold _ _ _ _ (by rw [word_toInt]; show _ ≤ (2147483647 : Int); omega) fun k _ => ?_
  rw [word_toInt]
  split
  · next h =>
    rw [word_toInt]
    refine Int.ofNat_le.2 (Fin.le_def.1 (not_lt.1 fun hlt => ?_))
    exact absurd (h₀.2 k hlt) (by rw [h]; exact lt_irrefl _)
  · show _ ≤ (100000 : Int); omega

end Cert.Row
-- ==== Proof.KernelRow.lean ====
/- The sampling kernel's block of sixteen rows, read at an index: each row of what it stores holds a one at the first
   greatest score of the row's logits and random numbers, and zeros elsewhere. -/
module

public import proofs.«01_k».proof.Proof.Gen.KernelIdeal.Skeleton
public import proofs.«01_k».proof.Proof.Row
public import Idealize.ShloMosaic.Lib.Pipeline.Value
public import Idealize.ShloMosaic.Lib.ValueIdxCore

@[expose] public section

set_option maxRecDepth 65536

noncomputable section

namespace Cert.KernelIdeal.Hand

open Cert.KernelIdeal Cert.KernelIdeal.Gen
open Idealize.ShloMosaic Idealize.ShloMosaic.ValueIdx

/-- A row of a block. -/
def brow (v : S16x100000.Idx → EReal) (r : Fin 16) : Fin 100000 → EReal := fun k => v (ix2 r k)

theorem lift_brow (r : Fin 16) (k : Fin 100000) : reduces_S16x100000_S16.lift (ix1 r) k = ix2 r k := by
  funext d; fin_cases d <;> rfl

theorem brow_eq {α : Type} (v : S16x100000.Idx → α) (r : Fin 16) :
    v ∘ reduces_S16x100000_S16.lift (ix1 r) = fun k : Fin 100000 => v (ix2 r k) :=
  funext fun k => congrArg v (lift_brow r k)

/-- Each row's maximum. -/
def peak (v : FVec Ideal S16x100000 .f32) : FVec Ideal S16 .f32 :=
  multiReduction .maximumf [1] S16 v 0xFF800000#32 reduces_S16x100000_S16 (.inl rfl) rfl

/-- Each row's sum. -/
def total (v : FVec Ideal S16x100000 .f32) : FVec Ideal S16 .f32 :=
  multiReduction .add [1] S16 v 0x00000000#32 reduces_S16x100000_S16 (.inl rfl) rfl

/-- Each row's least word. -/
def least (v : IVec S16x100000 32) : IVec S16 32 :=
  multiReductionI .minsi [1] S16 v 2147483647#32 reduces_S16x100000_S16 rfl

/-- One entry per row, spread over the row. -/
def across {α : Type} (v : S16.Idx → α) : S16x100000.Idx → α :=
  broadcastTo S16x100000 (shapeCast S16x1 v shapeCasts_S16_S16x1) broadcasts_S16x1_S16x100000

/-- The places of a row. -/
def places : IVec S16x100000 32 := iota .tc S16x100000 32 [1] iota_S16x100000_d1_w32

theorem peak_at (v : FVec Ideal S16x100000 .f32) (r : Fin 16) : peak v (ix1 r) = Row.top (brow v r) :=
  (Ideal.multiReduction_maximumf_single v _ reduces_S16x100000_S16 (.inl rfl) rfl (ix1 r)).trans
    (congrArg (Finset.univ.fold max (Ideal.ofBits .f32 0xFF800000#32)) (brow_eq v r))

theorem total_at (v : FVec Ideal S16x100000 .f32) (r : Fin 16) : total v (ix1 r) = ∑ k, brow v r k :=
  (Ideal.multiReduction_add_single v _ reduces_S16x100000_S16 (.inl rfl) rfl (ix1 r)).trans
    (Finset.sum_congr rfl fun k _ => congrArg v (lift_brow r k))

theorem least_at (v : IVec S16x100000 32) (r : Fin 16) :
    least v (ix1 r) = Finset.univ.fold IntOp.minsi 2147483647#32 fun k : Fin 100000 => v (ix2 r k) := by
  classical
  exact (multiReductionI_eq_fold .minsi v _ reduces_S16x100000_S16 rfl (ix1 r)).trans
    ((reduces_S16x100000_S16.fold_filter_drop_single IntOp.minsi _ v (ix1 r)).trans
      (congrArg (Finset.univ.fold IntOp.minsi 2147483647#32) (brow_eq v r)))

theorem across_at {α : Type} (v : S16.Idx → α) (r : Fin 16) (k : Fin 100000) : across v (ix2 r k) = v (ix1 r) :=
  (broadcastTo_apply _ _ _ (ix2 r 0) (by intro a; fin_cases a <;> rfl)).trans
    (shapeCast_apply _ _ _ (ix1 r) (by fin_cases r <;> rfl))

theorem places_at (r : Fin 16) (k : Fin 100000) : places (ix2 r k) = Row.word k :=
  iota_single_apply .tc S16x100000 32 1 iota_S16x100000_d1_w32 (ix2 r k)

/-- The exponentials of a block, each row's maximum taken off first. -/
def bexp (x : FVec Ideal S16x100000 .f32) : FVec Ideal S16x100000 .f32 := exp (subf x (across (peak x)))

/-- The scores of a block. -/
def bscore (x g : FVec Ideal S16x100000 .f32) : FVec Ideal S16x100000 .f32 :=
  addf g (log (minimumf (broadcast S16x100000 (Scalar.ofBits .f32 0x3F800000#32))
    (maximumf (broadcast S16x100000 (Scalar.ofBits .f32 0x2EDBE6FF#32)) (divf (bexp x) (across (total (bexp x)))))))

/-- The places whose score is the row's greatest, the number of places standing for the others. -/
def tied (s : FVec Ideal S16x100000 .f32) : IVec S16x100000 32 :=
  select (cmpf .oeq s (across (peak s))) places (broadcast S16x100000 100000#32)

theorem pay_eq (x g : FVec Ideal S16x100000 .f32) : k1_pay1 (F := Ideal) x g
    = sitofp .f32 (extui 32 (cmpi .eq places (across (least (tied (bscore x g))))) natLt_1_32) := by
  have hx : shapeCast S16x100000 x shapeCasts_S16x100000_S16x100000 = x :=
    funext fun j => shapeCast_apply _ _ _ j rfl
  have hg : shapeCast S16x100000 g shapeCasts_S16x100000_S16x100000 = g :=
    funext fun j => shapeCast_apply _ _ _ j rfl
  unfold k1_pay1
  rw [hx, hg]
  rfl

theorem bexp_at (x : FVec Ideal S16x100000 .f32) (r : Fin 16) (k : Fin 100000) : bexp x (ix2 r k) = Row.expo (brow x r) k := by
  refine (show bexp x (ix2 r k) = Ideal.exp ((x (ix2 r k) : EReal) - across (peak x) (ix2 r k)) from rfl).trans ?_
  rw [across_at, peak_at]
  rfl

theorem bounded_at (e t g : FVec Ideal S16x100000 .f32) (j : S16x100000.Idx) :
    addf g (log (minimumf (broadcast S16x100000 (Scalar.ofBits .f32 0x3F800000#32))
      (maximumf (broadcast S16x100000 (Scalar.ofBits .f32 0x2EDBE6FF#32)) (divf e t)))) j
    = (g j : EReal) + Ideal.log (min (Ideal.ofBits .f32 0x3F800000#32)
      (max (Ideal.ofBits .f32 0x2EDBE6FF#32) (Ideal.div (e j) (t j)))) := rfl

theorem bscore_at (x g : FVec Ideal S16x100000 .f32) (r : Fin 16) (k : Fin 100000) :
    bscore x g (ix2 r k) = Row.score (brow x r) (brow g r) k := by
  refine (bounded_at (bexp x) (across (total (bexp x))) g (ix2 r k)).trans ?_
  have hb : brow (bexp x) r = Row.expo (brow x r) := funext fun k' => bexp_at x r k'
  have ht : across (total (bexp x)) (ix2 r k) = ∑ k', Row.expo (brow x r) k' :=
    (across_at _ r k).trans ((total_at _ r).trans (congrArg (fun v : Fin 100000 → EReal => ∑ k', v k') hb))
  rw [ht, bexp_at]
  rfl

theorem brow_bscore (x g : FVec Ideal S16x100000 .f32) (r : Fin 16) :
    brow (bscore x g) r = Row.score (brow x r) (brow g r) := funext fun k => bscore_at x g r k

open Classical in
theorem tied_at (s : FVec Ideal S16x100000 .f32) (r : Fin 16) (k : Fin 100000) :
    tied s (ix2 r k) = if brow s r k = Row.top (brow s r) then Row.word k else 100000#32 := by
  refine (show tied s (ix2 r k) = Scalar.select (BitVec.ofBool (decide ((s (ix2 r k) : EReal) = across (peak s) (ix2 r k))))
    (places (ix2 r k)) 100000#32 from rfl).trans ?_
  rw [across_at, peak_at, places_at]
  show _ = if (s (ix2 r k) : EReal) = Row.top (brow s r) then Row.word k else 100000#32
  by_cases h : (s (ix2 r k) : EReal) = Row.top (brow s r)
  · rw [if_pos h]; simp [h, Scalar.select]
  · rw [if_neg h]; simp [h, Scalar.select]

/-- What the kernel stores, at an index. -/
theorem pay_at (x g : FVec Ideal S16x100000 .f32) (r : Fin 16) (k : Fin 100000) :
    k1_pay1 (F := Ideal) x g (ix2 r k) = Row.hot (Row.score (brow x r) (brow g r)) k := by
  obtain ⟨k₀, h₀⟩ := Row.exists_first (Row.score (brow x r) (brow g r))
  have hl : least (tied (bscore x g)) (ix1 r) = Row.word k₀ := by
    rw [least_at, ← Row.argmin_fold h₀, ← brow_bscore]
    exact congrArg (Finset.univ.fold IntOp.minsi 2147483647#32) (funext fun k => tied_at _ r k)
  rw [Row.hot_eq h₀]
  refine (congrFun (pay_eq x g) _).trans ?_
  refine (show _ = ((((IntOp.cmpi .eq (places (ix2 r k)) (across (least (tied (bscore x g))) (ix2 r k))).setWidth 32).toInt : ℝ) : EReal) from rfl).trans ?_
  rw [places_at, across_at, hl]
  by_cases he : Row.word k = Row.word k₀
  · rw [if_pos he, he]
    simp [IntOp.cmpi]
  · rw [if_neg he]
    simp [IntOp.cmpi, show (Row.word k == Row.word k₀) = false from beq_eq_false_iff_ne.2 he]

end Cert.KernelIdeal.Hand
-- ==== Proof.KernelValue.lean ====
/- The kernel's result, read at an index: the noise call's table holds each element's random number, the sampling call's
   array holds each row's answer, and the two reshapes only rename the indices. -/
module

public import proofs.«01_k».proof.Proof.Launched
public import proofs.«01_k».proof.Proof.KernelRow
public import Idealize.ShloMosaic.Lib.Pipeline.ValueKit.Geometry

@[expose] public section

set_option maxRecDepth 65536

noncomputable section

namespace Cert.KernelIdeal.Hand

open Cert.KernelIdeal Cert.KernelIdeal.Gen
open Idealize.ShloMosaic Idealize.ShloMosaic.TcCoe Idealize.ShloMosaic.ValueIdx Idealize.SL Idealize.SL.Sem

variable (m : (ℓ : Loc nD τ sig) → Buf (Elt Ideal) ℓ) (ρ : Dev nD → PrngReg)

/-- The table of random numbers. -/
def table : S512x100000.Idx → EReal := fun j => Draw.gumbel (F := Ideal) (BitVec.ofNat 32 ((j 0).val * 100000 + (j 1).val))

/-- The answers of an array of logits, given an array of random numbers. -/
def answers (x g : S512x100000.Idx → EReal) : S512x100000.Idx → EReal := fun j =>
  Row.hot (Row.score (fun k => x (ix2 (j 0) k)) (fun k => g (ix2 (j 0) k))) (j 1)

theorem index0 : ∀ t : Fin cfg0.N, win0_0.index t = ![(grid0.coords t 0).val, 0] := (by decide +kernel : ∀ t : Fin grid0.N, _)
theorem index1_0 : ∀ t : Fin cfg1.N, win1_0.index t = ![(grid1.coords t 0).val, 0] := (by decide +kernel : ∀ t : Fin grid1.N, _)
theorem index1_1 : ∀ t : Fin cfg1.N, win1_1.index t = ![(grid1.coords t 0).val, 0] := (by decide +kernel : ∀ t : Fin grid1.N, _)
theorem index1_2 : ∀ t : Fin cfg1.N, win1_2.index t = ![(grid1.coords t 0).val, 0] := (by decide +kernel : ∀ t : Fin grid1.N, _)

theorem covers0 : (cfg0.win 0).Covers := by decide +kernel
theorem covers1 : (cfg1.win 2).Covers := by decide +kernel

/-- The array a call leaves, from what its body leaves at each point. -/
theorem glue0 {c : Dev nD} (dat : Pipeline.Dat τ (Elt Ideal) Unit ℕ (UR sig nD τ) ℕ cfg0 c) (X : Fin cfg0.N → S8x100000.Idx → EReal)
    (G : S512x100000.Idx → EReal) (ha : ∀ t, dat.after 0 t = X t)
    (hG : ∀ (t : Fin cfg0.N) (y : S8x100000.Idx), X t y = G (((cfg0.win 0).blk t).view.emb y)) : dat.arrAt 0 cfg0.N = G :=
  dat.arrAt_eq_of_emb 0 G (fun t _ y => (congrFun (ha t) y).trans (hG t y)) (covers0.cover _ (Memref.isWhole_whole _))

theorem glue1 {c : Dev nD} (dat : Pipeline.Dat τ (Elt Ideal) Unit ℕ (UR sig nD τ) ℕ cfg1 c) (X : Fin cfg1.N → S16x100000.Idx → EReal)
    (G : S512x100000.Idx → EReal) (ha : ∀ t, dat.after 2 t = X t)
    (hG : ∀ (t : Fin cfg1.N) (y : S16x100000.Idx), X t y = G (((cfg1.win 2).blk t).view.emb y)) : dat.arrAt 2 cfg1.N = G :=
  dat.arrAt_eq_of_emb 2 G (fun t _ y => (congrFun (ha t) y).trans (hG t y)) (covers1.cover _ (Memref.isWhole_whole _))

/-! ### The noise call -/

theorem emb0_0 (t : Fin cfg0.N) (y : S8x100000.Idx) :
    (((cfg0.win 0).blk t).view.emb y 0).val = (grid0.coords t 0).val * 8 + (y 0).val := by
  blk_simp [index0]

theorem emb0_1 (t : Fin cfg0.N) (y : S8x100000.Idx) : (((cfg0.win 0).blk t).view.emb y 1).val = (y 1).val := by
  blk_simp [index0]

theorem block0 (t : Fin cfg0.N) (y : S8x100000.Idx) :
    noiseBlk (F := Ideal) (grid0.coords t) y = table (((cfg0.win 0).blk t).view.emb y) := by
  unfold noiseBlk table
  exact congrArg (fun n => Draw.gumbel (F := Ideal) (BitVec.ofNat 32 n))
    (congrArg₂ (fun a b => a * 100000 + b) (emb0_0 t y) (emb0_1 t y)).symm

variable (V : (c : Dev nD) → (b : Ref sig .tc) → Buf (Elt Ideal) ((c : Thread nD τ).loc b))

/-- The noise call leaves the table. -/
theorem table_eq (c : Dev nD) : (dat0 (F := Ideal) V c).arrAt 0 cfg0.N = table :=
  glue0 (dat0 V c) _ _ (after0_0 V c) block0

/-! ### The sampling call -/

theorem ld_whole (x : Vec Ideal S16x100000 .f32) : View.ld x r1_0 = x :=
  View.ld_unit_zero (by funext a; fin_cases a <;> rfl) _ x

theorem out_eq (x g : Vec Ideal S16x100000 .f32) : out1_2 (F := Ideal) x g = k1_pay1 (F := Ideal) x g := by
  unfold out1_2
  rw [ld_whole, ld_whole]
  exact View.canon_cons_unit_zero (by funext a; fin_cases a <;> rfl) _ _ _

theorem emb1_0 (t : Fin cfg1.N) (y : S16x100000.Idx) :
    (((cfg1.win 2).blk t).view.emb y 0).val = (grid1.coords t 0).val * 16 + (y 0).val := by
  blk_simp [index1_2]

theorem emb1_1 (t : Fin cfg1.N) (y : S16x100000.Idx) : (((cfg1.win 2).blk t).view.emb y 1).val = (y 1).val := by
  blk_simp [index1_2]

theorem logits_at (c : Dev nD) (t : Fin cfg1.N) (r : Fin 16) (k : Fin 100000) (n : Fin 512)
    (hn : n.val = (grid1.coords t 0).val * 16 + r.val) : iblk1 (F := Ideal) V c 0 t (ix2 r k) = V c main_v1 (ix2 n k) := by
  blk_simp [iblk1]
  refine congrArg (V c main_v1) (funext fun a => Fin.ext ?_)
  fin_cases a
  · refine Eq.trans ?_ hn.symm
    blk_simp [index1_0]
  · blk_simp [index1_0]

theorem noise_at (c : Dev nD) (t : Fin cfg1.N) (r : Fin 16) (k : Fin 100000) (n : Fin 512)
    (hn : n.val = (grid1.coords t 0).val * 16 + r.val) : iblk1 (F := Ideal) V c 1 t (ix2 r k) = V c main_v0 (ix2 n k) := by
  blk_simp [iblk1]
  refine congrArg (V c main_v0) (funext fun a => Fin.ext ?_)
  fin_cases a
  · refine Eq.trans ?_ hn.symm
    blk_simp [index1_1]
  · blk_simp [index1_1]

theorem block1 (c : Dev nD) (t : Fin cfg1.N) (y : S16x100000.Idx) :
    out1_2 (F := Ideal) (iblk1 V c 0 t) (iblk1 V c 1 t) y
      = answers (V c main_v1) (V c main_v0) (((cfg1.win 2).blk t).view.emb y) := by
  have h0 := emb1_0 t y
  have h1 := emb1_1 t y
  generalize ((cfg1.win 2).blk t).view.emb y = e at h0 h1
  have hy : y = ix2 (y 0) (y 1) := by funext a; fin_cases a <;> rfl
  have hx : brow (iblk1 (F := Ideal) V c 0 t) (y 0) = fun k => V c main_v1 (ix2 (e 0) k) :=
    funext fun k => logits_at V c t (y 0) k (e 0) h0
  have hg : brow (iblk1 (F := Ideal) V c 1 t) (y 0) = fun k => V c main_v0 (ix2 (e 0) k) :=
    funext fun k => noise_at V c t (y 0) k (e 0) h0
  have hk : y 1 = e 1 := Fin.ext h1.symm
  refine (congrFun (out_eq _ _) y).trans ((congrArg _ hy).trans ((pay_at _ _ (y 0) (y 1)).trans ?_))
  rw [hx, hg]
  exact congrArg _ hk

/-- The sampling call leaves the answers. -/
theorem answers_eq (c : Dev nD) : (dat1 (F := Ideal) V c).arrAt 2 cfg1.N = answers (V c main_v1) (V c main_v0) :=
  glue1 (dat1 V c) _ _ (after1_2 V c) (block1 V c)

/-! ### The whole program -/

theorem reshape_in (W : Valuation τ sig (Elt Ideal)) : StableHlo.after hostOps1 W (Proc.devRef .tc main_v1)
    = shapeCast S512x100000 (W (Proc.devRef .tc main_arg0)) shapeCasts_S64x8x100000_S512x100000 :=
  (congrFun (StableHlo.after_cons _ _ _) _).trans
    ((congrFun (StableHlo.after_nil _) _).trans ((StableHlo.reshape_result _ _ _ _ _ _ W).trans rfl))

theorem reshape_out (W : Valuation τ sig (Elt Ideal)) : StableHlo.after hostOps2 W (Proc.devRef .tc main_v3)
    = shapeCast S64x8x100000 (W (Proc.devRef .tc main_v2)) shapeCasts_S512x100000_S64x8x100000 :=
  (congrFun (StableHlo.after_cons _ _ _) _).trans
    ((congrFun (StableHlo.after_nil _) _).trans ((StableHlo.reshape_result _ _ _ _ _ _ W).trans rfl))

theorem noise_in (c : Dev nD) : V2 m ρ c main_v0 = table :=
  (W2_of m ρ c main_v0 (by decide)).trans ((W1_arr m ρ c 0).trans (table_eq (V0 m ρ) c))

theorem logits_in (c : Dev nD) : V2 m ρ c main_v1
    = shapeCast S512x100000 (m ((c : Thread nD τ).loc main_arg0)) shapeCasts_S64x8x100000_S512x100000 :=
  (reshape_in (W1 m ρ c)).trans
    (congrArg (fun x => shapeCast S512x100000 x shapeCasts_S64x8x100000_S512x100000) (W1_args m ρ c main_arg0 (by decide)))

theorem result_out (c : Dev nD) : W4 m ρ c (Proc.devRef .tc main_v3)
    = shapeCast S64x8x100000 (answers (V2 m ρ c main_v1) (V2 m ρ c main_v0)) shapeCasts_S512x100000_S64x8x100000 :=
  (reshape_out (W3 m ρ c)).trans
    (congrArg (fun x => shapeCast S64x8x100000 x shapeCasts_S512x100000_S64x8x100000)
      ((W3_arr m ρ c 2).trans (answers_eq (V2 m ρ) c)))

/-- The row of the flattened arrays. -/
def at8 (a : Fin 64) (b : Fin 8) : Fin 512 := ⟨a.val * 8 + b.val, by omega⟩

theorem flatten_at (x : S64x8x100000.Idx → EReal) (a : Fin 64) (b : Fin 8) (k : Fin 100000) :
    shapeCast S512x100000 x shapeCasts_S64x8x100000_S512x100000 (ix2 (at8 a b) k) = x (ix3 a b k) :=
  shapeCast_apply _ _ _ (ix3 a b k) (by simp [Shape.rowMajor_val_three, Shape.rowMajor_val_two, at8])

theorem unflatten_at (x : S512x100000.Idx → EReal) (a : Fin 64) (b : Fin 8) (k : Fin 100000) :
    shapeCast S64x8x100000 x shapeCasts_S512x100000_S64x8x100000 (ix3 a b k) = x (ix2 (at8 a b) k) :=
  shapeCast_apply _ _ _ (ix2 (at8 a b) k) (by simp [Shape.rowMajor_val_three, Shape.rowMajor_val_two, at8])

/-- The result, at an index. -/
theorem result_at (c : Dev nD) (x : S64x8x100000.Idx → EReal) (hx : m ((c : Thread nD τ).loc main_arg0) = x)
    (a : Fin 64) (b : Fin 8) (k : Fin 100000) :
    W4 m ρ c (Proc.devRef .tc main_v3) (ix3 a b k)
      = Row.hot (Row.score (fun k => x (ix3 a b k))
          (fun k => Draw.gumbel (F := Ideal) (BitVec.ofNat 32 ((a.val * 8 + b.val) * 100000 + k.val)))) k := by
  subst hx
  refine (congrFun (result_out m ρ c) _).trans ((unflatten_at _ a b k).trans ?_)
  have h1 : (fun k => V2 m ρ c main_v1 (ix2 (at8 a b) k)) = fun k => m ((c : Thread nD τ).loc main_arg0) (ix3 a b k) :=
    funext fun k => (congrFun (logits_in m ρ c) _).trans (flatten_at _ a b k)
  have h0 : (fun k => V2 m ρ c main_v0 (ix2 (at8 a b) k)) = fun k => table (ix2 (at8 a b) k) :=
    funext fun k => congrFun (noise_in m ρ c) _
  exact congrFun (congrArg Row.hot (congrArg₂ Row.score h1 h0)) k

end Cert.KernelIdeal.Hand
-- ==== Proof.Stmts.lean ====
/- A line of host operations in which every buffer is written once and read only afterwards: once it has run, every
   operation's equation holds of the final contents. -/
module

public import Idealize.ShloMosaic.Lib.StableHlo.Run

@[expose] public section

noncomputable section

namespace Cert.Line

open Idealize.ShloMosaic Idealize.ShloMosaic.TcCoe Idealize.ShloMosaic.StableHlo

variable {τ : Topo} {sig : RefSig} {Val : EltTy → Type}

/-- One operation: its result buffer, its operands and its function. -/
inductive Stmt (sig : RefSig) (Val : EltTy → Type) : Type
  | k {T : BufTy} (y : TRef sig T) (v : T.Contents Val)
  | u {A T : BufTy} (x : TRef sig A) (y : TRef sig T) (f : A.Contents Val → T.Contents Val)
  | b {A B T : BufTy} (a : TRef sig A) (b : TRef sig B) (y : TRef sig T) (f : A.Contents Val → B.Contents Val → T.Contents Val)
  | q {A B C D T : BufTy} (a : TRef sig A) (b : TRef sig B) (c : TRef sig C) (d : TRef sig D) (y : TRef sig T)
      (f : A.Contents Val → B.Contents Val → C.Contents Val → D.Contents Val → T.Contents Val)

/-- What a buffer holds. -/
def get {T : BufTy} (x : TRef sig T) (V : Valuation τ sig Val) : T.Contents Val := x.ofBuf (V (Proc.devRef .tc x.ref))

/-- A buffer's number. -/
abbrev no {T : BufTy} (x : TRef sig T) : Nat := x.ref.idx.val

namespace Stmt

/-- The operation. -/
def op : Stmt sig Val → HloOp τ sig Val
  | k y v => TRef.nullary y v
  | u x y f => TRef.unary x y f
  | b x₁ x₂ y f => TRef.binary x₁ x₂ y f
  | q x₁ x₂ x₃ x₄ y f => TRef.quaternary x₁ x₂ x₃ x₄ y f

/-- The buffer it writes. -/
def target : Stmt sig Val → Ref sig .tc
  | k y _ => y.ref
  | u _ y _ => y.ref
  | b _ _ y _ => y.ref
  | q _ _ _ _ y _ => y.ref

/-- It writes the buffer number `n` and reads buffers of smaller numbers. -/
def okAt (n : Nat) : Stmt sig Val → Bool
  | k y _ => no y == n
  | u x y _ => no y == n && Nat.blt (no x) n
  | b x₁ x₂ y _ => no y == n && Nat.blt (no x₁) n && Nat.blt (no x₂) n
  | q x₁ x₂ x₃ x₄ y _ => no y == n && Nat.blt (no x₁) n && Nat.blt (no x₂) n && Nat.blt (no x₃) n && Nat.blt (no x₄) n

/-- Its equation between buffer contents. -/
def eqn (V : Valuation τ sig Val) : Stmt sig Val → Prop
  | k y v => get y V = v
  | u x y f => get y V = f (get x V)
  | b x₁ x₂ y f => get y V = f (get x₁ V) (get x₂ V)
  | q x₁ x₂ x₃ x₄ y f => get y V = f (get x₁ V) (get x₂ V) (get x₃ V) (get x₄ V)

theorem op_bufs (s : Stmt sig Val) : (s.op : HloOp τ sig Val).bufs ⊆ tcRefs τ sig := by
  cases s with
  | k y v => exact nullary_bufs_sub y.ref (y.toBuf v) y.dev
  | u x y f => exact unary_bufs_sub x.ref y.ref (fun t => y.toBuf (f (x.ofBuf t))) x.dev y.dev
  | b x₁ x₂ y f => exact binary_bufs_sub x₁.ref x₂.ref y.ref (fun t u => y.toBuf (f (x₁.ofBuf t) (x₂.ofBuf u))) x₁.dev x₂.dev y.dev
  | q x₁ x₂ x₃ x₄ y f =>
    exact quaternary_bufs_sub x₁.ref x₂.ref x₃.ref x₄.ref y.ref
        (fun t u v w => y.toBuf (f (x₁.ofBuf t) (x₂.ofBuf u) (x₃.ofBuf v) (x₄.ofBuf w))) x₁.dev x₂.dev x₃.dev x₄.dev y.dev

theorem op_fresh (s : Stmt sig Val) : (s.op : HloOp τ sig Val).fresh = ∅ := by
  cases s <;> rfl

theorem op_writes (s : Stmt sig Val) : (s.op : HloOp τ sig Val).writes = {Proc.devRef .tc s.target} := by
  cases s <;> rfl

theorem target_of_okAt {n : Nat} {s : Stmt sig Val} (h : s.okAt n = true) : s.target.idx.val = n := by
  cases s <;> simp only [okAt, Bool.and_eq_true, beq_iff_eq] at h
  · exact h
  · exact h.1
  · exact h.1.1
  · exact h.1.1.1.1

end Stmt

/-- The operations of a line. -/
def opsOf (l : List (Stmt sig Val)) : List (HloOp τ sig Val) := l.map Stmt.op

/-- The results are numbered from `n` on, in order, and every operand is older than its result. -/
def ordered : Nat → List (Stmt sig Val) → Bool
  | _, [] => true
  | n, s :: l => s.okAt n && ordered (n + 1) l

/-- A buffer older than the line keeps its contents. -/
theorem after_old {r : Ref sig .tc} : ∀ (l : List (Stmt sig Val)) (n : Nat) (V : Valuation τ sig Val),
    ordered n l = true → r.idx.val < n → after (opsOf l) V (Proc.devRef .tc r) = V (Proc.devRef .tc r)
  | [], _, _, _, _ => rfl
  | s :: l, n, V, h, hr => by
    simp only [ordered, Bool.and_eq_true] at h
    show after (opsOf l) (s.op.result V) (Proc.devRef .tc r) = _
    rw [after_old l (n + 1) _ h.2 (by omega)]
    refine HloOp.result_of_not_mem _ _ ?_
    rw [s.op_writes, Finset.mem_singleton]
    refine devRef_ne_of_ne fun e => ?_
    have := Stmt.target_of_okAt h.1
    rw [← e] at this
    omega

theorem get_old {T : BufTy} {x : TRef sig T} (l : List (Stmt sig Val)) (n : Nat) (V : Valuation τ sig Val)
    (h : ordered n l = true) (hx : no x < n) : get x (after (opsOf l) V) = get x V := by
  unfold get
  rw [after_old l n V h hx]

theorem get_result_ne {T : BufTy} {x : TRef sig T} {n : Nat} {s : Stmt sig Val} (V : Valuation τ sig Val)
    (h : s.okAt n = true) (hx : no x < n) : get x ((s.op : HloOp τ sig Val).result V) = get x V := by
  unfold get
  rw [HloOp.result_of_not_mem]
  rw [s.op_writes, Finset.mem_singleton]
  refine devRef_ne_of_ne fun e => ?_
  have := Stmt.target_of_okAt h
  rw [← e] at this
  exact absurd this (by have : no x < n := hx; unfold no at this; omega)

theorem ofBuf_toBuf {T : BufTy} (y : TRef sig T) (v : T.Contents Val) : y.ofBuf (y.toBuf v) = v := by
  simp [TRef.ofBuf, TRef.toBuf]

/-- Right after an operation its equation holds. -/
theorem eqn_result {n : Nat} {s : Stmt sig Val} (V : Valuation τ sig Val) (h : s.okAt n = true) :
    s.eqn ((s.op : HloOp τ sig Val).result V) := by
  have h' := h
  cases s with
  | k y v =>
    exact (congrArg y.ofBuf (nullary_result (τ := τ) y.ref (y.toBuf v) y.dev V)).trans (ofBuf_toBuf y _)
  | u x y f =>
    simp only [Stmt.okAt, Bool.and_eq_true, beq_iff_eq, Nat.blt_eq] at h'
    show get y _ = f (get x _)
    rw [get_result_ne (x := x) V h (by omega)]
    exact (congrArg y.ofBuf (unary_result (τ := τ) x.ref y.ref (fun u => y.toBuf (f (x.ofBuf u))) x.dev y.dev V)).trans
      (ofBuf_toBuf y _)
  | b x₁ x₂ y f =>
    simp only [Stmt.okAt, Bool.and_eq_true, beq_iff_eq, Nat.blt_eq] at h'
    show get y _ = f (get x₁ _) (get x₂ _)
    rw [get_result_ne (x := x₁) V h (by omega), get_result_ne (x := x₂) V h (by omega)]
    exact (congrArg y.ofBuf (binary_result (τ := τ) x₁.ref x₂.ref y.ref (fun u v => y.toBuf (f (x₁.ofBuf u) (x₂.ofBuf v)))
      x₁.dev x₂.dev y.dev V)).trans (ofBuf_toBuf y _)
  | q x₁ x₂ x₃ x₄ y f =>
    simp only [Stmt.okAt, Bool.and_eq_true, beq_iff_eq, Nat.blt_eq] at h'
    show get y _ = f (get x₁ _) (get x₂ _) (get x₃ _) (get x₄ _)
    rw [get_result_ne (x := x₁) V h (by omega), get_result_ne (x := x₂) V h (by omega),
      get_result_ne (x := x₃) V h (by omega), get_result_ne (x := x₄) V h (by omega)]
    exact (congrArg y.ofBuf (quaternary_result (τ := τ) x₁.ref x₂.ref x₃.ref x₄.ref y.ref
      (fun t u v w => y.toBuf (f (x₁.ofBuf t) (x₂.ofBuf u) (x₃.ofBuf v) (x₄.ofBuf w)))
      x₁.dev x₂.dev x₃.dev x₄.dev y.dev V)).trans (ofBuf_toBuf y _)

/-- An equation between buffers no newer than `n` survives a line numbered from `n + 1` on. -/
theorem eqn_after {n : Nat} {s : Stmt sig Val} (l : List (Stmt sig Val)) (V : Valuation τ sig Val) (h : s.okAt n = true)
    (hl : ordered (n + 1) l = true) (e : s.eqn V) : s.eqn (after (opsOf l) V) := by
  cases s with
  | k y v =>
    simp only [Stmt.okAt, Bool.and_eq_true, beq_iff_eq, Nat.blt_eq] at h
    exact (get_old (x := y) l _ V hl (by omega)).trans e
  | u x y f =>
    simp only [Stmt.okAt, Bool.and_eq_true, beq_iff_eq, Nat.blt_eq] at h
    show get y _ = f (get x _)
    rw [get_old (x := y) l _ V hl (by omega), get_old (x := x) l _ V hl (by omega)]
    exact e
  | b x₁ x₂ y f =>
    simp only [Stmt.okAt, Bool.and_eq_true, beq_iff_eq, Nat.blt_eq] at h
    show get y _ = f (get x₁ _) (get x₂ _)
    rw [get_old (x := y) l _ V hl (by omega), get_old (x := x₁) l _ V hl (by omega), get_old (x := x₂) l _ V hl (by omega)]
    exact e
  | q x₁ x₂ x₃ x₄ y f =>
    simp only [Stmt.okAt, Bool.and_eq_true, beq_iff_eq, Nat.blt_eq] at h
    show get y _ = f (get x₁ _) (get x₂ _) (get x₃ _) (get x₄ _)
    rw [get_old (x := y) l _ V hl (by omega), get_old (x := x₁) l _ V hl (by omega), get_old (x := x₂) l _ V hl (by omega),
      get_old (x := x₃) l _ V hl (by omega), get_old (x := x₄) l _ V hl (by omega)]
    exact e

/-- Every equation holds of the final contents. -/
theorem eqns : ∀ (l : List (Stmt sig Val)) (n : Nat) (V : Valuation τ sig Val), ordered n l = true →
    ∀ s ∈ l, s.eqn (after (opsOf l) V)
  | [], _, _, _, _, hs => nomatch hs
  | s :: l, n, V, h, t, ht => by
    simp only [ordered, Bool.and_eq_true] at h
    show t.eqn (after (opsOf l) (s.op.result V))
    rcases List.mem_cons.mp ht with rfl | ht
    · exact eqn_after l _ h.1 h.2 (eqn_result V h.1)
    · exact eqns l (n + 1) _ h.2 t ht

/-- The equations of a part of a line. -/
abbrev Holds (V : Valuation τ sig Val) (l : List (Stmt sig Val)) : Prop := l.Forall (Stmt.eqn V)

theorem holds (l : List (Stmt sig Val)) (n : Nat) (V : Valuation τ sig Val) (h : ordered n l = true) :
    Holds (after (opsOf l) V) l := List.forall_iff_forall_mem.mpr (eqns l n V h)

theorem holds_append {V : Valuation τ sig Val} {l₁ l₂ : List (Stmt sig Val)} (h : Holds V (l₁ ++ l₂)) :
    Holds V l₁ ∧ Holds V l₂ := List.forall_append.mp h

theorem opsOf_bufs (l : List (Stmt sig Val)) : (opsOf l : List (HloOp τ sig Val)).Forall fun op => op.bufs ⊆ tcRefs τ sig :=
  List.forall_iff_forall_mem.mpr fun _ h => by
    obtain ⟨s, _, rfl⟩ := List.mem_map.mp h
    exact s.op_bufs

theorem opsOf_fresh (l : List (Stmt sig Val)) : ∀ op ∈ (opsOf l : List (HloOp τ sig Val)), op.fresh = ∅ := fun _ h => by
  obtain ⟨s, _, rfl⟩ := List.mem_map.mp h
  exact s.op_fresh

end Cert.Line

end
-- ==== Proof.RefRun.lean ====
/- The reference's operations as one line, and its run: every buffer ends at what the line leaves in it. -/
module

public import proofs.«01_k».proof.Proof.Gen.ReferenceIdeal
public import proofs.«01_k».proof.Proof.Stmts
public import Idealize.ShloMosaic.Lib.Tactic

@[expose] public section

set_option maxRecDepth 65536

noncomputable section

namespace Cert.ReferenceIdeal.Hand

open Cert.ReferenceIdeal Cert.ReferenceIdeal.Gen Cert.Line
open Idealize.ShloMosaic Idealize.ShloMosaic.TcCoe Idealize.ShloMosaic.StableHlo Idealize.ShloMosaic.Tactic Idealize.SL.Sem

variable {F : FTy → Type} [FloatOps F]

/-- A buffer of words, one per element. -/
abbrev W : Type := TRef sig ⟨S64x8x100000, .i32⟩
/-- A buffer of one word. -/
abbrev W0 : Type := TRef sig ⟨S_, .i32⟩

/-- One round of the cipher: add, rotate by `d` (`e = 32 - d`), exclusive or. -/
def roundS (d e : BitVec 32) (x₀ x₁ s : W) (c : W0) (t l : W) (c' : W0) (t' r o y : W) : List (Stmt sig (Elt F)) :=
  [.b x₀ x₁ s addi,
    .k c (constantI S_ 32 d),
    .u c t (broadcastInDim S64x8x100000 ![] bcast_S_S64x8x100000),
    .b x₁ t l Host.shli,
    .k c' (constantI S_ 32 e),
    .u c' t' (broadcastInDim S64x8x100000 ![] bcast_S_S64x8x100000),
    .b x₁ t' r Host.shrui,
    .b l r o ori,
    .b s o y xori]

/-- The injection number `j`: the key words `k` and `k'` and the number itself. -/
def injectS (j : BitVec 32) (k k' : W0) (x₀ x₁ t y₀ t' s : W) (c : W0) (u y₁ : W) : List (Stmt sig (Elt F)) :=
  [.u k t (broadcastInDim S64x8x100000 ![] bcast_S_S64x8x100000),
    .b x₀ t y₀ addi,
    .u k' t' (broadcastInDim S64x8x100000 ![] bcast_S_S64x8x100000),
    .b x₁ t' s addi,
    .k c (constantI S_ 32 j),
    .u c u (broadcastInDim S64x8x100000 ![] bcast_S_S64x8x100000),
    .b s u y₁ addi]

/-- The operations of `clip`. -/
def clipS (arg0 : TRef sig ⟨S64x8x100000, .f32⟩) (arg1 arg2 : TRef sig ⟨S_, .f32⟩) (φ : fn_clip.Bufs) : List (Stmt sig (Elt F)) :=
  [.u arg1 φ.v0 id,
    .u φ.v0 φ.v1 (broadcastInDim S64x8x100000 ![] bcast_S_S64x8x100000),
    .b φ.v1 arg0 φ.v2 maximumf,
    .u arg2 φ.v3 id,
    .u φ.v3 φ.v4 (broadcastInDim S64x8x100000 ![] bcast_S_S64x8x100000),
    .b φ.v4 φ.v2 φ.v5 minimumf]

/-- The operations of the cipher: the first key addition, then four rounds and an injection, five times. -/
def threefryS (arg0 arg1 : TRef sig ⟨S_, .i32⟩) (arg2 arg3 : TRef sig ⟨S64x8x100000, .i32⟩) (φ : fn_threefry2x32.Bufs) : List (Stmt sig (Elt F)) :=
  [.b arg0 arg1 φ.v0 xori,
    .k φ.c (constantI S_ 32 466688986#32),
    .b φ.v0 φ.c φ.v1 xori,
    .u arg0 φ.v2 (broadcastInDim S64x8x100000 ![] bcast_S_S64x8x100000),
    .b arg2 φ.v2 φ.v3 addi,
    .u arg1 φ.v4 (broadcastInDim S64x8x100000 ![] bcast_S_S64x8x100000),
    .b arg3 φ.v4 φ.v5 addi] ++
  (roundS 13#32 19#32 φ.v3 φ.v5 φ.v6 φ.c_0 φ.v7 φ.v8 φ.c_1 φ.v9 φ.v10 φ.v11 φ.v12 ++
  (roundS 15#32 17#32 φ.v6 φ.v12 φ.v13 φ.c_2 φ.v14 φ.v15 φ.c_3 φ.v16 φ.v17 φ.v18 φ.v19 ++
  (roundS 26#32 6#32 φ.v13 φ.v19 φ.v20 φ.c_4 φ.v21 φ.v22 φ.c_5 φ.v23 φ.v24 φ.v25 φ.v26 ++
  (roundS 6#32 26#32 φ.v20 φ.v26 φ.v27 φ.c_6 φ.v28 φ.v29 φ.c_7 φ.v30 φ.v31 φ.v32 φ.v33 ++
  (injectS 1#32 arg1 φ.v1 φ.v27 φ.v33 φ.v34 φ.v35 φ.v36 φ.v37 φ.c_8 φ.v38 φ.v39 ++
  (roundS 17#32 15#32 φ.v35 φ.v39 φ.v40 φ.c_9 φ.v41 φ.v42 φ.c_10 φ.v43 φ.v44 φ.v45 φ.v46 ++
  (roundS 29#32 3#32 φ.v40 φ.v46 φ.v47 φ.c_11 φ.v48 φ.v49 φ.c_12 φ.v50 φ.v51 φ.v52 φ.v53 ++
  (roundS 16#32 16#32 φ.v47 φ.v53 φ.v54 φ.c_13 φ.v55 φ.v56 φ.c_14 φ.v57 φ.v58 φ.v59 φ.v60 ++
  (roundS 24#32 8#32 φ.v54 φ.v60 φ.v61 φ.c_15 φ.v62 φ.v63 φ.c_16 φ.v64 φ.v65 φ.v66 φ.v67 ++
  (injectS 2#32 φ.v1 arg0 φ.v61 φ.v67 φ.v68 φ.v69 φ.v70 φ.v71 φ.c_17 φ.v72 φ.v73 ++
  (roundS 13#32 19#32 φ.v69 φ.v73 φ.v74 φ.c_18 φ.v75 φ.v76 φ.c_19 φ.v77 φ.v78 φ.v79 φ.v80 ++
  (roundS 15#32 17#32 φ.v74 φ.v80 φ.v81 φ.c_20 φ.v82 φ.v83 φ.c_21 φ.v84 φ.v85 φ.v86 φ.v87 ++
  (roundS 26#32 6#32 φ.v81 φ.v87 φ.v88 φ.c_22 φ.v89 φ.v90 φ.c_23 φ.v91 φ.v92 φ.v93 φ.v94 ++
  (roundS 6#32 26#32 φ.v88 φ.v94 φ.v95 φ.c_24 φ.v96 φ.v97 φ.c_25 φ.v98 φ.v99 φ.v100 φ.v101 ++
  (injectS 3#32 arg0 arg1 φ.v95 φ.v101 φ.v102 φ.v103 φ.v104 φ.v105 φ.c_26 φ.v106 φ.v107 ++
  (roundS 17#32 15#32 φ.v103 φ.v107 φ.v108 φ.c_27 φ.v109 φ.v110 φ.c_28 φ.v111 φ.v112 φ.v113 φ.v114 ++
  (roundS 29#32 3#32 φ.v108 φ.v114 φ.v115 φ.c_29 φ.v116 φ.v117 φ.c_30 φ.v118 φ.v119 φ.v120 φ.v121 ++
  (roundS 16#32 16#32 φ.v115 φ.v121 φ.v122 φ.c_31 φ.v123 φ.v124 φ.c_32 φ.v125 φ.v126 φ.v127 φ.v128 ++
  (roundS 24#32 8#32 φ.v122 φ.v128 φ.v129 φ.c_33 φ.v130 φ.v131 φ.c_34 φ.v132 φ.v133 φ.v134 φ.v135 ++
  (injectS 4#32 arg1 φ.v1 φ.v129 φ.v135 φ.v136 φ.v137 φ.v138 φ.v139 φ.c_35 φ.v140 φ.v141 ++
  (roundS 13#32 19#32 φ.v137 φ.v141 φ.v142 φ.c_36 φ.v143 φ.v144 φ.c_37 φ.v145 φ.v146 φ.v147 φ.v148 ++
  (roundS 15#32 17#32 φ.v142 φ.v148 φ.v149 φ.c_38 φ.v150 φ.v151 φ.c_39 φ.v152 φ.v153 φ.v154 φ.v155 ++
  (roundS 26#32 6#32 φ.v149 φ.v155 φ.v156 φ.c_40 φ.v157 φ.v158 φ.c_41 φ.v159 φ.v160 φ.v161 φ.v162 ++
  (roundS 6#32 26#32 φ.v156 φ.v162 φ.v163 φ.c_42 φ.v164 φ.v165 φ.c_43 φ.v166 φ.v167 φ.v168 φ.v169 ++
  (injectS 5#32 φ.v1 arg0 φ.v163 φ.v169 φ.v170 φ.v171 φ.v172 φ.v173 φ.c_44 φ.v174 φ.v175)))))))))))))))))))))))))

/-- The operations of `uniform`. -/
def uniformS (arg0 : TRef sig ⟨S2, .i32⟩) (arg1 arg2 : TRef sig ⟨S_, .f32⟩) (φ : fn_uniform.Bufs) : List (Stmt sig (Elt F)) :=
  [.u arg1 φ.v0 id,
    .u arg2 φ.v1 (broadcastInDim S1x1x1 ![] bcast_S_S1x1x1),
    .u φ.v0 φ.v2 (broadcastInDim S1x1x1 ![] bcast_S_S1x1x1),
    .u arg0 φ.v3 (extractStridedSlice S1 ![0] · slices_S2_S1_0),
    .u φ.v3 φ.v4 (fun v => shapeCast S_ v shapeCasts_S1_S_),
    .u arg0 φ.v5 (extractStridedSlice S1 ![1] · slices_S2_S1_1),
    .u φ.v5 φ.v6 (fun v => shapeCast S_ v shapeCasts_S1_S_),
    .k φ.v7 (iotaInDim S64x8x100000 64 0),
    .k φ.v8 (iotaInDim S64x8x100000 64 1),
    .k φ.v9 (iotaInDim S64x8x100000 64 2),
    .k φ.c (constantI S_ 64 800000#64),
    .u φ.c φ.v10 (broadcastInDim S64x8x100000 ![] bcast_S_S64x8x100000),
    .b φ.v10 φ.v7 φ.v11 muli,
    .k φ.c_0 (constantI S_ 64 100000#64),
    .u φ.c_0 φ.v12 (broadcastInDim S64x8x100000 ![] bcast_S_S64x8x100000),
    .b φ.v12 φ.v8 φ.v13 muli,
    .k φ.c_1 (constantI S_ 64 1#64),
    .u φ.c_1 φ.v14 (broadcastInDim S64x8x100000 ![] bcast_S_S64x8x100000),
    .b φ.v14 φ.v9 φ.v15 muli,
    .b φ.v11 φ.v13 φ.v16 addi,
    .b φ.v16 φ.v15 φ.v17 addi,
    .k φ.c_2 (constantI S_ 64 32#64),
    .u φ.c_2 φ.v18 (broadcastInDim S64x8x100000 ![] bcast_S_S64x8x100000),
    .b φ.v17 φ.v18 φ.v19 Host.shrui,
    .u φ.v17 φ.v20 (trunci 32 · natLt_32_64),
    .u φ.v19 φ.v21 (trunci 32 · natLt_32_64)] ++
  (threefryS φ.v4 φ.v6 φ.v21 φ.v20 φ.call0 ++
  ([.b φ.call0.v171 φ.call0.v175 φ.v23 xori,
    .k φ.c_3 (constantI S_ 32 9#32),
    .u φ.c_3 φ.v24 (broadcastInDim S64x8x100000 ![] bcast_S_S64x8x100000),
    .b φ.v23 φ.v24 φ.v25 Host.shrui,
    .k φ.c_4 (constantI S_ 32 1065353216#32),
    .u φ.c_4 φ.v26 (broadcastInDim S64x8x100000 ![] bcast_S_S64x8x100000),
    .b φ.v25 φ.v26 φ.v27 ori,
    .u φ.v27 φ.v28 (bitcastToFloat .f32),
    .k φ.cst (constant S_ .f32 0x3F800000#32),
    .u φ.cst φ.v29 (broadcastInDim S64x8x100000 ![] bcast_S_S64x8x100000),
    .b φ.v28 φ.v29 φ.v30 subf,
    .b φ.v2 φ.v1 φ.v31 subf,
    .u φ.v31 φ.v32 (broadcastInDim S64x8x100000 ![0, 1, 2] bcast_S1x1x1_S64x8x100000_0_1_2),
    .b φ.v30 φ.v32 φ.v33 mulf,
    .u φ.v1 φ.v34 (broadcastInDim S64x8x100000 ![0, 1, 2] bcast_S1x1x1_S64x8x100000_0_1_2),
    .b φ.v33 φ.v34 φ.v35 addf,
    .u φ.v1 φ.v36 (broadcastInDim S64x8x100000 ![0, 1, 2] bcast_S1x1x1_S64x8x100000_0_1_2),
    .b φ.v36 φ.v35 φ.v37 maximumf]))

/-- The operations of `gumbel`. -/
def gumbelS (arg0 : TRef sig ⟨S2, .i32⟩) (φ : fn_gumbel.Bufs) : List (Stmt sig (Elt F)) :=
  [.k φ.cst (constant S_ .f32 0x3F800000#32),
    .k φ.cst_0 (constant S_ .f32 0x00800000#32)] ++
  (uniformS arg0 φ.cst φ.cst_0 φ.call0 ++
  ([.u φ.call0.v37 φ.v1 Host.log,
    .u φ.v1 φ.v2 Host.negf,
    .u φ.v2 φ.v3 Host.log,
    .u φ.v3 φ.v4 Host.negf]))

/-- The operations of `argmax`. -/
def argmaxS (arg0 : TRef sig ⟨S64x8x100000, .f32⟩) (φ : fn_argmax.Bufs) : List (Stmt sig (Elt F)) :=
  [.k φ.v0 (iotaInDim S64x8x100000 32 2),
    .k φ.cst (constant S_ .f32 0xFF800000#32),
    .k φ.c (constantI S_ 32 0#32),
    .q arg0 φ.v0 φ.cst φ.c φ.v1_0 (fun x y u v j => (Host.argReduce reducer_argmax_f32_i32 x y u v reducesTo_S64x8x100000_S64x8_d2 h_S_ j).1),
    .q arg0 φ.v0 φ.cst φ.c φ.v1_1 (fun x y u v j => (Host.argReduce reducer_argmax_f32_i32 x y u v reducesTo_S64x8x100000_S64x8_d2 h_S_ j).2)]

/-- The operations of `one_hot`. -/
def oneHotS (arg0 : TRef sig ⟨S64x8, .i32⟩) (φ : fn_one_hot.Bufs) : List (Stmt sig (Elt F)) :=
  [.u arg0 φ.v0 (broadcastInDim S64x8x1 ![0, 1] bcast_S64x8_S64x8x1_0_1),
    .k φ.v1 (iotaInDim S1x1x100000 32 2),
    .u φ.v0 φ.v2 (broadcastInDim S64x8x100000 ![0, 1, 2] bcast_S64x8x1_S64x8x100000_0_1_2),
    .u φ.v1 φ.v3 (broadcastInDim S64x8x100000 ![0, 1, 2] bcast_S1x1x100000_S64x8x100000_0_1_2),
    .b φ.v2 φ.v3 φ.v4 (cmpi .eq),
    .u φ.v4 φ.v5 (uitofp .f32)]

/-- The operations of the reference. -/
def mainS : List (Stmt sig (Elt F)) :=
  [.k (.of (T := ⟨S_, .f32⟩) main_cst) (constant S_ .f32 0x3F800000#32),
    .u (.of (T := ⟨S_, .f32⟩) main_cst) (.of (T := ⟨S64x8x100000, .f32⟩) main_v0) (broadcastInDim S64x8x100000 ![] bcast_S_S64x8x100000),
    .b (.of (T := ⟨S64x8x100000, .f32⟩) main_arg0) (.of (T := ⟨S64x8x100000, .f32⟩) main_v0) (.of (T := ⟨S64x8x100000, .f32⟩) main_v1) Host.divf,
    .k (.of (T := ⟨S_, .f32⟩) main_cst_0) (constant S_ .f32 0xFF800000#32),
    .b (.of (T := ⟨S64x8x100000, .f32⟩) main_v1) (.of (T := ⟨S_, .f32⟩) main_cst_0) (.of (T := ⟨S64x8, .f32⟩) main_v2) (fun x v => Host.reduce FloatOps.maximumf x v reducesTo_S64x8x100000_S64x8_d2 h_S_),
    .k (.of (T := ⟨S_, .f32⟩) main_cst_1) (constant S_ .f32 0xFF800000#32),
    .u (.of (T := ⟨S_, .f32⟩) main_cst_1) (.of (T := ⟨S64x8, .f32⟩) main_v3) (broadcastInDim S64x8 ![] bcast_S_S64x8),
    .b (.of (T := ⟨S64x8, .f32⟩) main_v3) (.of (T := ⟨S64x8, .f32⟩) main_v2) (.of (T := ⟨S64x8, .f32⟩) main_v4) maximumf,
    .u (.of (T := ⟨S64x8, .f32⟩) main_v4) (.of (T := ⟨S64x8x1, .f32⟩) main_v5) (broadcastInDim S64x8x1 ![0, 1] bcast_S64x8_S64x8x1_0_1),
    .u (.of (T := ⟨S64x8x1, .f32⟩) main_v5) (.of (T := ⟨S64x8x100000, .f32⟩) main_v6) (broadcastInDim S64x8x100000 ![0, 1, 2] bcast_S64x8x1_S64x8x100000_0_1_2),
    .b (.of (T := ⟨S64x8x100000, .f32⟩) main_v1) (.of (T := ⟨S64x8x100000, .f32⟩) main_v6) (.of (T := ⟨S64x8x100000, .f32⟩) main_v7) subf,
    .u (.of (T := ⟨S64x8x100000, .f32⟩) main_v7) (.of (T := ⟨S64x8x100000, .f32⟩) main_v8) Host.exp,
    .k (.of (T := ⟨S_, .f32⟩) main_cst_2) (constant S_ .f32 0x00000000#32),
    .b (.of (T := ⟨S64x8x100000, .f32⟩) main_v8) (.of (T := ⟨S_, .f32⟩) main_cst_2) (.of (T := ⟨S64x8, .f32⟩) main_v9) (fun x v => Host.reduceAdd x v reducesTo_S64x8x100000_S64x8_d2 h_S_),
    .u (.of (T := ⟨S64x8, .f32⟩) main_v9) (.of (T := ⟨S64x8x1, .f32⟩) main_v10) (broadcastInDim S64x8x1 ![0, 1] bcast_S64x8_S64x8x1_0_1),
    .u (.of (T := ⟨S64x8x1, .f32⟩) main_v10) (.of (T := ⟨S64x8x100000, .f32⟩) main_v11) (broadcastInDim S64x8x100000 ![0, 1, 2] bcast_S64x8x1_S64x8x100000_0_1_2),
    .b (.of (T := ⟨S64x8x100000, .f32⟩) main_v8) (.of (T := ⟨S64x8x100000, .f32⟩) main_v11) (.of (T := ⟨S64x8x100000, .f32⟩) main_v12) Host.divf,
    .k (.of (T := ⟨S_, .i32⟩) main_c) (constantI S_ 32 42#32),
    .k (.of (T := ⟨S_, .i32⟩) main_c_3) (constantI S_ 32 32#32),
    .b (.of (T := ⟨S_, .i32⟩) main_c) (.of (T := ⟨S_, .i32⟩) main_c_3) (.of (T := ⟨S_, .i32⟩) main_v13) Host.shrui,
    .u (.of (T := ⟨S_, .i32⟩) main_v13) (.of (T := ⟨S_, .i32⟩) main_v14) id,
    .u (.of (T := ⟨S_, .i32⟩) main_v14) (.of (T := ⟨S1, .i32⟩) main_v15) (broadcastInDim S1 ![] bcast_S_S1),
    .k (.of (T := ⟨S_, .i32⟩) main_c_4) (constantI S_ 32 4294967295#32),
    .b (.of (T := ⟨S_, .i32⟩) main_c) (.of (T := ⟨S_, .i32⟩) main_c_4) (.of (T := ⟨S_, .i32⟩) main_v16) andi,
    .u (.of (T := ⟨S_, .i32⟩) main_v16) (.of (T := ⟨S_, .i32⟩) main_v17) id,
    .u (.of (T := ⟨S_, .i32⟩) main_v17) (.of (T := ⟨S1, .i32⟩) main_v18) (broadcastInDim S1 ![] bcast_S_S1),
    .b (.of (T := ⟨S1, .i32⟩) main_v15) (.of (T := ⟨S1, .i32⟩) main_v18) (.of (T := ⟨S2, .i32⟩) main_v19) (fun a b => concatenate S2 0 [⟨S1, a⟩, ⟨S1, b⟩] concatenates_S1_S1_S2_d0),
    .k (.of (T := ⟨S_, .f32⟩) main_cst_5) (constant S_ .f32 0x2EDBE6FF#32),
    .k (.of (T := ⟨S_, .f32⟩) main_cst_6) (constant S_ .f32 0x3F800000#32)] ++
  (clipS (.of main_v12) (.of main_cst_5) (.of main_cst_6) main_call0 ++
  ([.u (.of (T := ⟨S64x8x100000, .f32⟩) main_v20) (.of (T := ⟨S64x8x100000, .f32⟩) main_v21) Host.log] ++
  (gumbelS (.of main_v19) main_call1 ++
  ([.b (.of (T := ⟨S64x8x100000, .f32⟩) main_v22) (.of (T := ⟨S64x8x100000, .f32⟩) main_v21) (.of (T := ⟨S64x8x100000, .f32⟩) main_v23) addf] ++
  (argmaxS (.of main_v23) main_call2 ++
  (oneHotS (.of main_v24) main_call3))))))

set_option maxHeartbeats 4000000 in
theorem main_eq (c : Dev nD) : main (F := F) c = seq (opsOf mainS) := by sl_kernel_rfl

theorem mainS_ordered : ordered 1 (mainS (F := F)) = true := by sl_kernel_rfl

theorem scopedRefs_eq : (Finset.univ.filter fun b : Ref sig .tc => b.isScoped) = ∅ := by decide
theorem scopedSems_eq : (Finset.univ.filter fun sm : SemLoc sig => sm.isScoped .tc) = ∅ := by decide

/-- What a device's buffers hold once the reference has run from the memory `m`. -/
def final (m : (ℓ : Loc nD τ sig) → Buf (Elt F) ℓ) (c : Dev nD) : Valuation τ sig (Elt F) :=
  after (opsOf mainS) (launchContents m c)

/-- All operations' equations hold of it. -/
theorem final_holds (m : (ℓ : Loc nD τ sig) → Buf (Elt F) ℓ) (c : Dev nD) : Holds (final m c) mainS :=
  holds mainS 1 _ mainS_ordered

/-- The argument is what it was. -/
theorem final_arg (m : (ℓ : Loc nD τ sig) → Buf (Elt F) ℓ) (c : Dev nD) :
    final m c (Proc.devRef .tc main_arg0) = m ((c.tc : Thread nD τ).loc main_arg0) :=
  after_old mainS 1 _ mainS_ordered (by decide)

/-- The run. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = final m c (Proc.devRef .tc b) :=
  run_seq scopedRefs_eq scopedSems_eq defs main (fun _ => opsOf mainS) main_eq (fun _ => opsOf_bufs mainS) m ρ
    fun _ => opsOf_fresh mainS

end Cert.ReferenceIdeal.Hand

end
-- ==== Proof.RefDraw.lean ====
/- The reference's random numbers, read at an index: its cipher's operations do, element by element, what the plain
   functions of a word do, and its Gumbel number at (a, b, k) is the one of the counter (8 a + b) 100000 + k. -/
module

public import proofs.«01_k».proof.Proof.Gumbel
public import proofs.«01_k».proof.Proof.RefRun
public import Idealize.ShloMosaic.Lib.IdealHost
public import Idealize.ShloMosaic.Lib.Pipeline.Value

@[expose] public section

set_option maxRecDepth 65536

noncomputable section

namespace Cert.ReferenceIdeal.Hand

open Cert.ReferenceIdeal Cert.ReferenceIdeal.Gen Cert.Line
open Idealize.ShloMosaic Idealize.ShloMosaic.TcCoe Idealize.ShloMosaic.StableHlo Idealize.ShloMosaic.ValueIdx

variable {F : FTy → Type} [FloatOps F]

section Words

variable {V : Valuation τ sig (Elt F)} (j : S64x8x100000.Idx)

/-- Two buffers of words at one index. -/
def at2 (x y : W) (V : Valuation τ sig (Elt F)) (j : S64x8x100000.Idx) : BitVec 32 × BitVec 32 := (get x V j, get y V j)

theorem bcast_at {T : Shape} (h : S_.BroadcastsInDim T ![]) {α : Type} (x : S_.Idx → α) (j : T.Idx) :
    broadcastInDim T ![] h x j = x ix0 := broadcastInDim_scalar_apply h x j

theorem roundS_at {d e : BitVec 32} {x₀ x₁ s : W} {c : W0} {t l : W} {c' : W0} {t' r o y : W}
    (h : Holds V (roundS d e x₀ x₁ s c t l c' t' r o y)) : at2 s y V j = Draw.round d e (at2 x₀ x₁ V j) := by
  obtain ⟨h1, h2, h3, h4, h5, h6, h7, h8, h9⟩ := h
  simp only [Stmt.eqn] at h1 h2 h3 h4 h5 h6 h7 h8 h9
  unfold at2 Draw.round Draw.rot
  have e1 : get s V j = IntOp.addi (get x₀ V j) (get x₁ V j) := congrFun h1 j
  have e4 : get l V j = IntOp.shli .vector (get x₁ V j) d := by
    rw [h4, h3, h2]; exact shli_host _ _
  have e7 : get r V j = IntOp.shrui .vector (get x₁ V j) e := by
    rw [h7, h6, h5]; exact shrui_host _ _
  have e8 : get o V j = IntOp.ori (get l V j) (get r V j) := congrFun h8 j
  have e9 : get y V j = IntOp.xori (get s V j) (get o V j) := congrFun h9 j
  rw [e9, e8, e4, e7, e1]

theorem injectS_at {n : BitVec 32} {k k' : W0} {x₀ x₁ t y₀ t' s : W} {c : W0} {u y₁ : W} {w w' : BitVec 32}
    (h : Holds V (injectS n k k' x₀ x₁ t y₀ t' s c u y₁)) (hk : get k V ix0 = w) (hk' : get k' V ix0 = w') :
    at2 y₀ y₁ V j = Draw.inject w w' n (at2 x₀ x₁ V j) := by
  obtain ⟨h1, h2, h3, h4, h5, h6, h7⟩ := h
  simp only [Stmt.eqn] at h1 h2 h3 h4 h5 h6 h7
  unfold at2 Draw.inject
  have e1 : get t V j = w := by rw [h1, bcast_at, hk]
  have e2 : get y₀ V j = IntOp.addi (get x₀ V j) (get t V j) := congrFun h2 j
  have e3 : get t' V j = w' := by rw [h3, bcast_at, hk']
  have e4 : get s V j = IntOp.addi (get x₁ V j) (get t' V j) := congrFun h4 j
  have e6 : get u V j = n := by rw [h6, bcast_at, h5]; rfl
  have e7 : get y₁ V j = IntOp.addi (get s V j) (get u V j) := congrFun h7 j
  rw [e7, e4, e2, e1, e3, e6]

/-- The cipher under the key (0, 42). -/
theorem threefryS_at {a₀ a₁ : W0} {a₂ a₃ : W} {φ : fn_threefry2x32.Bufs} (h : Holds V (threefryS a₀ a₁ a₂ a₃ φ))
    (h₀ : get a₀ V ix0 = 0#32) (h₁ : get a₁ V ix0 = 42#32) :
    at2 φ.v171 φ.v175 V j = Draw.rounds (IntOp.addi (get a₂ V j) 0#32, IntOp.addi (get a₃ V j) 42#32) := by
  unfold threefryS at h
  obtain ⟨hh, h⟩ := holds_append h
  obtain ⟨g1, g2, g3, g4, g5, g6, g7⟩ := hh
  simp only [Stmt.eqn] at g1 g2 g3 g4 g5 g6 g7
  have hk : get φ.v1 V ix0 = 466689008#32 := by
    have e1 : get φ.v0 V ix0 = IntOp.xori (get a₀ V ix0) (get a₁ V ix0) := congrFun g1 ix0
    have e2 : get φ.c V ix0 = 466688986#32 := congrFun g2 ix0
    have e3 : get φ.v1 V ix0 = IntOp.xori (get φ.v0 V ix0) (get φ.c V ix0) := congrFun g3 ix0
    rw [e3, e1, e2, h₀, h₁]; rfl
  have hp : at2 φ.v3 φ.v5 V j = (IntOp.addi (get a₂ V j) 0#32, IntOp.addi (get a₃ V j) 42#32) := by
    have e4 : get φ.v2 V j = 0#32 := by rw [g4, bcast_at, h₀]
    have e5 : get φ.v3 V j = IntOp.addi (get a₂ V j) (get φ.v2 V j) := congrFun g5 j
    have e6 : get φ.v4 V j = 42#32 := by rw [g6, bcast_at, h₁]
    have e7 : get φ.v5 V j = IntOp.addi (get a₃ V j) (get φ.v4 V j) := congrFun g7 j
    unfold at2
    rw [e5, e7, e4, e6]
  rw [← hp]
  obtain ⟨r1, h⟩ := holds_append h
  obtain ⟨r2, h⟩ := holds_append h
  obtain ⟨r3, h⟩ := holds_append h
  obtain ⟨r4, h⟩ := holds_append h
  obtain ⟨i1, h⟩ := holds_append h
  obtain ⟨r5, h⟩ := holds_append h
  obtain ⟨r6, h⟩ := holds_append h
  obtain ⟨r7, h⟩ := holds_append h
  obtain ⟨r8, h⟩ := holds_append h
  obtain ⟨i2, h⟩ := holds_append h
  obtain ⟨r9, h⟩ := holds_append h
  obtain ⟨r10, h⟩ := holds_append h
  obtain ⟨r11, h⟩ := holds_append h
  obtain ⟨r12, h⟩ := holds_append h
  obtain ⟨i3, h⟩ := holds_append h
  obtain ⟨r13, h⟩ := holds_append h
  obtain ⟨r14, h⟩ := holds_append h
  obtain ⟨r15, h⟩ := holds_append h
  obtain ⟨r16, h⟩ := holds_append h
  obtain ⟨i4, h⟩ := holds_append h
  obtain ⟨r17, h⟩ := holds_append h
  obtain ⟨r18, h⟩ := holds_append h
  obtain ⟨r19, h⟩ := holds_append h
  obtain ⟨r20, i5⟩ := holds_append h
  rw [injectS_at j i5 hk h₀, roundS_at j r20, roundS_at j r19, roundS_at j r18, roundS_at j r17,
    injectS_at j i4 h₁ hk, roundS_at j r16, roundS_at j r15, roundS_at j r14, roundS_at j r13,
    injectS_at j i3 h₀ h₁, roundS_at j r12, roundS_at j r11, roundS_at j r10, roundS_at j r9,
    injectS_at j i2 hk h₀, roundS_at j r8, roundS_at j r7, roundS_at j r6, roundS_at j r5,
    injectS_at j i1 h₁ hk, roundS_at j r4, roundS_at j r3, roundS_at j r2, roundS_at j r1]
  rfl

/-- The row-major number of an index. -/
def flat (j : S64x8x100000.Idx) : Nat := ((j 0).val * 8 + (j 1).val) * 100000 + (j 2).val

theorem flat_lt (j : S64x8x100000.Idx) : flat j < 51200000 := by
  have h0 : (j 0).val < 64 := (j 0).isLt
  have h1 : (j 1).val < 8 := (j 1).isLt
  have h2 : (j 2).val < 100000 := (j 2).isLt
  unfold flat; omega

theorem low_word {n : Nat} (h : n < 51200000) : (BitVec.ofNat 64 n).setWidth 32 = BitVec.ofNat 32 n := by
  apply BitVec.eq_of_toNat_eq
  simp only [BitVec.toNat_setWidth, BitVec.toNat_ofNat]
  omega

theorem high_word {n : Nat} (h : n < 51200000) : (IntOp.shrui .host (BitVec.ofNat 64 n) 32#64).setWidth 32 = 0#32 := by
  unfold IntOp.shrui
  rw [if_pos (by decide)]
  apply BitVec.eq_of_toNat_eq
  simp only [BitVec.toNat_setWidth, BitVec.toNat_ofNat, BitVec.ushiftRight_eq', BitVec.toNat_ushiftRight, Nat.shiftRight_eq_div_pow,
    Nat.reducePow, Nat.reduceMod]
  omega

theorem counter (j : S64x8x100000.Idx) :
    IntOp.addi (IntOp.addi (IntOp.muli 800000#64 (BitVec.ofNat 64 (j 0).val)) (IntOp.muli 100000#64 (BitVec.ofNat 64 (j 1).val)))
      (IntOp.muli 1#64 (BitVec.ofNat 64 (j 2).val)) = BitVec.ofNat 64 (flat j) := by
  have h0 : (j 0).val < 64 := (j 0).isLt
  have h1 : (j 1).val < 8 := (j 1).isLt
  have h2 : (j 2).val < 100000 := (j 2).isLt
  unfold flat IntOp.addi IntOp.muli
  apply BitVec.eq_of_toNat_eq
  simp only [BitVec.toNat_add, BitVec.toNat_mul, BitVec.toNat_ofNat]
  omega

theorem one_at {s : Shape} (hs : s.numel = 1) {α : Type} (x : s.Idx → α) (h : s.ShapeCasts S_) (k : s.Idx) :
    shapeCast S_ x h ix0 = x k :=
  shapeCast_apply x h ix0 k (by
    have := (s.rowMajor k).isLt
    have h1 : S_.numel = 1 := by decide
    have := (S_.rowMajor ix0).isLt
    omega)

/-- The random number in [0, 1) of the counter `n`, kept above the least normal number. -/
def unif (n : BitVec 32) : F .f32 :=
  FloatOps.maximumf (FloatOps.ofBits .f32 0x00800000#32)
    (FloatOps.addf
      (FloatOps.mulf (FloatOps.subf (FloatOps.ofBits .f32 (Draw.mantissa (Draw.bits n))) (FloatOps.ofBits .f32 0x3F800000#32))
        (FloatOps.subf (FloatOps.ofBits .f32 0x3F800000#32) (FloatOps.ofBits .f32 0x00800000#32)))
      (FloatOps.ofBits .f32 0x00800000#32))

theorem uniformS_at {a₀ : TRef sig ⟨S2, .i32⟩} {a₁ a₂ : TRef sig ⟨S_, .f32⟩} {φ : fn_uniform.Bufs}
    (h : Holds V (uniformS a₀ a₁ a₂ φ)) (h₀ : get a₀ V (ix1 0) = 0#32) (h₁ : get a₀ V (ix1 1) = 42#32)
    (hhi : get a₁ V ix0 = FloatOps.ofBits .f32 0x3F800000#32) (hlo : get a₂ V ix0 = FloatOps.ofBits .f32 0x00800000#32) :
    get φ.v37 V j = unif (BitVec.ofNat 32 (flat j)) := by
  unfold uniformS at h
  obtain ⟨hh, h⟩ := holds_append h
  obtain ⟨ht, h⟩ := holds_append h
  obtain ⟨g0, g1, g2, g3, g4, g5, g6, g7, g8, g9, gc, g10, g11, gc0, g12, g13, gc1, g14, g15, g16, g17, gc2, g18, g19, g20, g21⟩ := hh
  obtain ⟨f23, fc3, f24, f25, fc4, f26, f27, f28, fcst, f29, f30, f31, f32, f33, f34, f35, f36, f37⟩ := h
  simp only [Stmt.eqn] at *
  -- the key words
  have k0 : get φ.v4 V ix0 = 0#32 := by
    rw [g4]
    refine (one_at (by decide) _ _ (ix1 0)).trans ?_
    rw [g3, extractStridedSlice_apply _ _ _ _ (ix1 0) (by intro a; fin_cases a; rfl), h₀]
  have k1 : get φ.v6 V ix0 = 42#32 := by
    rw [g6]
    refine (one_at (by decide) _ _ (ix1 0)).trans ?_
    rw [g5, extractStridedSlice_apply _ _ _ _ (ix1 1) (by intro a; fin_cases a; rfl), h₁]
  -- the counter
  have n10 : get φ.v10 V j = 800000#64 := by rw [g10, bcast_at, gc]; rfl
  have n12 : get φ.v12 V j = 100000#64 := by rw [g12, bcast_at, gc0]; rfl
  have n14 : get φ.v14 V j = 1#64 := by rw [g14, bcast_at, gc1]; rfl
  have n18 : get φ.v18 V j = 32#64 := by rw [g18, bcast_at, gc2]; rfl
  have n11 : get φ.v11 V j = IntOp.muli (get φ.v10 V j) (get φ.v7 V j) := congrFun g11 j
  have n13 : get φ.v13 V j = IntOp.muli (get φ.v12 V j) (get φ.v8 V j) := congrFun g13 j
  have n15 : get φ.v15 V j = IntOp.muli (get φ.v14 V j) (get φ.v9 V j) := congrFun g15 j
  have n16 : get φ.v16 V j = IntOp.addi (get φ.v11 V j) (get φ.v13 V j) := congrFun g16 j
  have n17 : get φ.v17 V j = BitVec.ofNat 64 (flat j) := by
    rw [show get φ.v17 V j = IntOp.addi (get φ.v16 V j) (get φ.v15 V j) from congrFun g17 j, n16, n11, n13, n15, n10, n12, n14,
      g7, g8, g9]
    exact counter j
  have n20 : get φ.v20 V j = BitVec.ofNat 32 (flat j) := by
    rw [g20]; exact (congrArg (BitVec.setWidth 32) n17).trans (low_word (flat_lt j))
  have n19 : get φ.v19 V j = IntOp.shrui .host (get φ.v17 V j) (get φ.v18 V j) := congrFun g19 j
  have n21 : get φ.v21 V j = 0#32 := by
    rw [g21]; refine (congrArg (BitVec.setWidth 32) n19).trans ?_
    rw [n17, n18]; exact high_word (flat_lt j)
  -- the random word
  have hb := threefryS_at j ht k0 k1
  rw [n20, n21] at hb
  have w23 : get φ.v23 V j = Draw.bits (BitVec.ofNat 32 (flat j)) := by
    rw [show get φ.v23 V j = IntOp.xori (get φ.call0.v171 V j) (get φ.call0.v175 V j) from congrFun f23 j,
      show get φ.call0.v171 V j = _ from congrArg Prod.fst hb, show get φ.call0.v175 V j = _ from congrArg Prod.snd hb]
    rfl
  have w25 : get φ.v25 V j = IntOp.shrui .vector (Draw.bits (BitVec.ofNat 32 (flat j))) 9#32 := by
    rw [show get φ.v25 V j = IntOp.shrui .host (get φ.v23 V j) (get φ.v24 V j) from congrFun f25 j, w23, f24, bcast_at, fc3]
    exact shrui_host _ _
  have w27 : get φ.v27 V j = Draw.mantissa (Draw.bits (BitVec.ofNat 32 (flat j))) := by
    rw [show get φ.v27 V j = IntOp.ori (get φ.v25 V j) (get φ.v26 V j) from congrFun f27 j, w25, f26, bcast_at, fc4]
    rfl
  have w28 : get φ.v28 V j = FloatOps.ofBits .f32 (Draw.mantissa (Draw.bits (BitVec.ofNat 32 (flat j)))) := by
    rw [f28]; exact congrArg (FloatOps.ofBits .f32) w27
  -- the number
  have u29 : get φ.v29 V j = FloatOps.ofBits .f32 0x3F800000#32 := by rw [f29, bcast_at, fcst]; rfl
  have u1 : ∀ i, get φ.v1 V i = FloatOps.ofBits .f32 0x00800000#32 := fun i => by rw [g1, bcast_at, hlo]
  have u2 : ∀ i, get φ.v2 V i = FloatOps.ofBits .f32 0x3F800000#32 := fun i => by rw [g2, bcast_at, g0]; exact hhi
  have b32 : get φ.v32 V j = FloatOps.subf (FloatOps.ofBits .f32 0x3F800000#32) (FloatOps.ofBits .f32 0x00800000#32) := by
    rw [f32, broadcastInDim_apply _ _ _ _ (ix3 0 0 0) (by intro a; fin_cases a <;> rfl)]
    rw [show get φ.v31 V (ix3 0 0 0) = FloatOps.subf (get φ.v2 V (ix3 0 0 0)) (get φ.v1 V (ix3 0 0 0)) from congrFun f31 _, u1, u2]
  have b34 : get φ.v34 V j = FloatOps.ofBits .f32 0x00800000#32 := by
    rw [f34, broadcastInDim_apply _ _ _ _ (ix3 0 0 0) (by intro a; fin_cases a <;> rfl), u1]
  have b36 : get φ.v36 V j = FloatOps.ofBits .f32 0x00800000#32 := by
    rw [f36, broadcastInDim_apply _ _ _ _ (ix3 0 0 0) (by intro a; fin_cases a <;> rfl), u1]
  have u30 : get φ.v30 V j = FloatOps.subf (get φ.v28 V j) (get φ.v29 V j) := congrFun f30 j
  have u33 : get φ.v33 V j = FloatOps.mulf (get φ.v30 V j) (get φ.v32 V j) := congrFun f33 j
  have u35 : get φ.v35 V j = FloatOps.addf (get φ.v33 V j) (get φ.v34 V j) := congrFun f35 j
  have u37 : get φ.v37 V j = FloatOps.maximumf (get φ.v36 V j) (get φ.v35 V j) := congrFun f37 j
  rw [u37, u35, u33, u30, b36, b34, b32, u29, w28]
  rfl

end Words

/-- The Gumbel number, at the extended reals. -/
theorem gumbelS_at {V : Valuation τ sig (Elt Ideal)} (j : S64x8x100000.Idx) {a₀ : TRef sig ⟨S2, .i32⟩} {φ : fn_gumbel.Bufs}
    (h : Holds V (gumbelS a₀ φ)) (h₀ : get a₀ V (ix1 0) = 0#32) (h₁ : get a₀ V (ix1 1) = 42#32) :
    get φ.v4 V j = Draw.gumbel (F := Ideal) (BitVec.ofNat 32 (flat j)) := by
  unfold gumbelS at h
  obtain ⟨hh, h⟩ := holds_append h
  obtain ⟨hu, h⟩ := holds_append h
  obtain ⟨g1, g2⟩ := hh
  obtain ⟨f1, f2, f3, f4⟩ := h
  simp only [Stmt.eqn] at g1 g2 f1 f2 f3 f4
  have u := uniformS_at j hu h₀ h₁ (congrFun g1 ix0) (congrFun g2 ix0)
  have e1 : get φ.v1 V j = Ideal.log (get φ.call0.v37 V j) := congrFun f1 j
  have e2 : get φ.v2 V j = -(get φ.v1 V j : EReal) := congrFun f2 j
  have e3 : get φ.v3 V j = Ideal.log (get φ.v2 V j) := congrFun f3 j
  have e4 : get φ.v4 V j = -(get φ.v3 V j : EReal) := congrFun f4 j
  have hz : (Scalar.ofBits (F := Ideal) .f32 0x00000000#32 : EReal) = 0 := by
    show Ideal.ofBits .f32 0x00000000#32 = 0
    simp [Ideal.ofBits, Ideal.ieee]
  have hneg : ∀ x : EReal, -x = FloatOps.subf (F := Ideal) (φ := .f32) (Scalar.ofBits .f32 0x00000000#32) x := fun x => by
    show -x = (Scalar.ofBits (F := Ideal) .f32 0x00000000#32 : EReal) - x
    rw [hz, zero_sub]
  rw [e4, e3, e2, e1, u, hneg, hneg]
  rfl

end Cert.ReferenceIdeal.Hand
-- ==== Proof.RefValue.lean ====
/- The reference's result, read at an index: row (a, b) of it holds a one at the first greatest score of the row's logits
   and random numbers, and zeros elsewhere. -/
module

public import proofs.«01_k».proof.Proof.RefDraw
public import proofs.«01_k».proof.Proof.Row

@[expose] public section

set_option maxRecDepth 65536

noncomputable section

namespace Cert.ReferenceIdeal.Hand

open Cert.ReferenceIdeal Cert.ReferenceIdeal.Gen Cert.Line
open Idealize.ShloMosaic Idealize.ShloMosaic.TcCoe Idealize.ShloMosaic.StableHlo Idealize.ShloMosaic.ValueIdx Idealize.SL.Sem

/-- A row of an array of three axes. -/
def row (v : S64x8x100000.Idx → EReal) (a : Fin 64) (b : Fin 8) : Fin 100000 → EReal := fun k => v (ix3 a b k)

/-- The random numbers of a row. -/
def noise (a : Fin 64) (b : Fin 8) : Fin 100000 → EReal := fun k =>
  Draw.gumbel (F := Ideal) (BitVec.ofNat 32 ((a.val * 8 + b.val) * 100000 + k.val))

theorem reduces_row : S64x8x100000.Reduces [2] S64x8 := by decide

theorem lift_row (a : Fin 64) (b : Fin 8) (k : Fin 100000) : reduces_row.lift (ix2 a b) k = ix3 a b k := by
  funext d; fin_cases d <;> rfl

theorem row_eq (v : S64x8x100000.Idx → EReal) (a : Fin 64) (b : Fin 8) : v ∘ reduces_row.lift (ix2 a b) = row v a b :=
  funext fun k => congrArg v (lift_row a b k)

/-- A row's maximum. -/
theorem max_at (v : FVec Ideal S64x8x100000 .f32) (i : FVec Ideal S_ .f32) (hi : i (Shape.Idx.first h_S_) = Ideal.ofBits .f32 0xFF800000#32)
    (a : Fin 64) (b : Fin 8) :
    Host.reduce FloatOps.maximumf v i reducesTo_S64x8x100000_S64x8_d2 h_S_ (ix2 a b) = Row.top (row v a b) := by
  rw [Host.reduce_eq_fold_single _ _ _ _ reduces_row, hi, row_eq]
  rfl

/-- A row's sum. -/
theorem sum_at (v : FVec Ideal S64x8x100000 .f32) (i : FVec Ideal S_ .f32) (hi : i (Shape.Idx.first h_S_) = (0 : EReal))
    (a : Fin 64) (b : Fin 8) :
    Host.reduceAdd v i reducesTo_S64x8x100000_S64x8_d2 h_S_ (ix2 a b) = ∑ k, row v a b k := by
  rw [hostReduceAdd_apply, Ideal.hostReduceAdd_single _ reduces_row, hi, zero_add]
  exact Finset.sum_congr rfl fun k _ => congrArg v (lift_row a b k)

/-- The place the reference takes in a row. -/
theorem argmax_at (v : FVec Ideal S64x8x100000 .f32) (n : IVec S64x8x100000 32) (i : FVec Ideal S_ .f32) (z : IVec S_ 32)
    (hn : n = iotaInDim S64x8x100000 32 2) (hi : i (Shape.Idx.first h_S_) = Ideal.ofBits .f32 0xFF800000#32)
    (hz : z (Shape.Idx.first h_S_) = 0#32) (a : Fin 64) (b : Fin 8) {k₀ : Fin 100000} (h₀ : Row.First (row v a b) k₀) :
    (Host.argReduce reducer_argmax_f32_i32 v n i z reducesTo_S64x8x100000_S64x8_d2 h_S_ (ix2 a b)).2 = Row.word k₀ := by
  rw [Ideal.argReduce_eq_reduce2, Host.reduce2_eq_foldl_fiber, hi, hz]
  refine Row.argmax_fold h₀ _ fun p => ?_
  unfold Host.argReduceFiber
  simp only [List.mem_map, List.mem_filter, List.mem_finRange, true_and, decide_eq_true_eq]
  rw [Shape.ReducesTo.drop_eq_drop _ reduces_row]
  constructor
  · rintro ⟨q, hq, rfl⟩
    have e := reduces_row.lift_drop (S64x8x100000.rowMajor.symm q)
    rw [hq] at e
    have e' : ix3 a b (S64x8x100000.rowMajor.symm q 2) = S64x8x100000.rowMajor.symm q := (lift_row a b _).symm.trans e
    exact ⟨S64x8x100000.rowMajor.symm q 2, Prod.ext (congrArg v e'.symm) (congrFun hn _)⟩
  · rintro ⟨k, rfl⟩
    refine ⟨S64x8x100000.rowMajor (ix3 a b k), ?_, ?_⟩
    · rw [Equiv.symm_apply_apply]
      exact (congrArg reduces_row.drop (lift_row a b k).symm).trans (reduces_row.drop_lift _ _)
    · rw [Equiv.symm_apply_apply, hn]; rfl

/-- One number per row, spread over the rows. -/
theorem spread_at {α : Type} (v : S64x8.Idx → α) (a : Fin 64) (b : Fin 8) (k : Fin 100000) :
    broadcastInDim S64x8x100000 ![0, 1, 2] bcast_S64x8x1_S64x8x100000_0_1_2
      (broadcastInDim S64x8x1 ![0, 1] bcast_S64x8_S64x8x1_0_1 v) (ix3 a b k) = v (ix2 a b) :=
  (broadcastInDim_apply _ _ _ _ (ix3 a b 0) (by intro a; fin_cases a <;> rfl)).trans
    (broadcastInDim_apply _ _ _ _ (ix2 a b) (by intro a; fin_cases a <;> rfl))

/-- The places, spread over the rows. -/
theorem places_at (v : IVec S1x1x100000 32) (hv : v = iotaInDim S1x1x100000 32 2) (a : Fin 64) (b : Fin 8) (k : Fin 100000) :
    broadcastInDim S64x8x100000 ![0, 1, 2] bcast_S1x1x100000_S64x8x100000_0_1_2 v (ix3 a b k) = Row.word k :=
  (broadcastInDim_apply _ _ _ _ (ix3 0 0 k) (by intro a; fin_cases a <;> rfl)).trans (congrFun hv _)

theorem div_one (x : EReal) : Ideal.div x 1 = x := by
  unfold Ideal.div
  rw [if_neg one_ne_zero]
  have : (1 : EReal)⁻¹ = 1 := by rw [show (1 : EReal) = ((1 : ℝ) : EReal) from rfl, ← EReal.coe_inv]; norm_num
  rw [this, mul_one]

theorem ofBits_zero : Ideal.ofBits .f32 0x00000000#32 = 0 := by simp [Ideal.ofBits, Ideal.ieee]

/-- A buffer's contents at the extended reals. -/
abbrev fl (x : TRef sig ⟨S64x8x100000, .f32⟩) (V : Valuation τ sig (Elt Ideal)) : S64x8x100000.Idx → EReal := get x V

/-- The same of one number per row. -/
abbrev fr (x : TRef sig ⟨S64x8, .f32⟩) (V : Valuation τ sig (Elt Ideal)) : S64x8.Idx → EReal := get x V

theorem pair_at (x y : IVec S1 32) :
    concatenate S2 0 [⟨S1, x⟩, ⟨S1, y⟩] concatenates_S1_S1_S2_d0 (ix1 0) = x (ix1 0)
      ∧ concatenate S2 0 [⟨S1, x⟩, ⟨S1, y⟩] concatenates_S1_S1_S2_d0 (ix1 1) = y (ix1 0) :=
  ⟨concatenate_pair_apply_left (t := S2) 0 x y _ (ix1 (n := 2) 0) rfl (ix1 0) (by intro b; fin_cases b; rfl),
    concatenate_pair_apply_right (t := S2) 0 x y _ (ix1 (n := 2) 1) rfl rfl (ix1 0) (by intro b hb; fin_cases b; exact absurd rfl hb) rfl⟩

/-- The result at an index, from the operations' equations. -/
theorem mainS_at {V : Valuation τ sig (Elt Ideal)} (h : Holds V mainS) (a : Fin 64) (b : Fin 8) (k : Fin 100000) :
    fl (.of main_v25) V (ix3 a b k) = Row.hot (Row.score (row (fl (.of main_arg0) V) a b) (noise a b)) k := by
  unfold mainS at h
  obtain ⟨hh, h⟩ := holds_append h
  obtain ⟨hclip, h⟩ := holds_append h
  obtain ⟨hlog, h⟩ := holds_append h
  obtain ⟨hgum, h⟩ := holds_append h
  obtain ⟨hadd, h⟩ := holds_append h
  obtain ⟨harg, hhot⟩ := holds_append h
  obtain ⟨gcst, g0, g1, gcst0, g2, gcst1, g3, g4, g5, g6, g7, g8, gcst2, g9, g10, g11, g12, gc, gc3, g13, g14, g15, gc4, g16,
    g17, g18, g19, gcst5, gcst6⟩ := hh
  obtain ⟨c0, c1, c2, c3, c4, c5⟩ := hclip
  obtain ⟨a0, acst, ac, a1, a2⟩ := harg
  obtain ⟨o0, o1, o2, o3, o4, o5⟩ := hhot
  simp only [Stmt.eqn] at gcst g0 g1 gcst0 g2 gcst1 g3 g4 g5 g6 g7 g8 gcst2 g9 g10 g11 g12 gc gc3 g13 g14 g15 gc4 g16 g17 g18 g19 gcst5 gcst6 c0 c1 c2 c3 c4 c5 a0 acst ac a1 a2 o0 o1 o2 o3 o4 o5
  have hlog' : ∀ j, fl (.of main_v21) V j = Ideal.log (fl (.of main_v20) V j) := congrFun hlog
  have hadd' : ∀ j, fl (.of main_v23) V j = fl (.of main_v22) V j + fl (.of main_v21) V j := congrFun hadd
  -- the softmax
  have hx : fl (.of main_v1) V = fl (.of main_arg0) V := funext fun j => by
    have e : fl (.of main_v0) V j = 1 := by
      refine (congrFun g0 j).trans ((bcast_at _ _ _).trans ((congrFun gcst _).trans Ideal.ofBits_one_f32))
    exact (congrFun g1 j).trans ((congrArg (Ideal.div (fl (.of main_arg0) V j)) e).trans (div_one _))
  generalize hX : fl (.of main_arg0) V = X at *
  have h2 : ∀ a b, fr (.of main_v4) V (ix2 a b) = Row.top (row X a b) := fun a b => by
    have e3 : fr (.of main_v3) V (ix2 a b) = ⊥ :=
      (congrFun g3 _).trans ((bcast_at _ _ _).trans ((congrFun gcst1 _).trans Row.ofBits_neg_inf))
    have e2 : fr (.of main_v2) V (ix2 a b) = Row.top (row X a b) :=
      (congrFun g2 _).trans ((max_at _ _ (congrFun gcst0 _) a b).trans (congrArg (fun v => Row.top (row v a b)) hx))
    refine (show fr (.of main_v4) V (ix2 a b) = max (fr (.of main_v3) V (ix2 a b)) (fr (.of main_v2) V (ix2 a b)) from congrFun g4 _).trans ?_
    rw [e3, e2]
    exact max_eq_right bot_le
  have h8 : ∀ a b k, fl (.of main_v8) V (ix3 a b k) = Row.expo (row X a b) k := fun a b k => by
    have e6 : fl (.of main_v6) V (ix3 a b k) = Row.top (row X a b) :=
      (congrFun g6 _).trans ((congrArg (fun v => broadcastInDim S64x8x100000 ![0, 1, 2] bcast_S64x8x1_S64x8x100000_0_1_2 v (ix3 a b k)) g5).trans
        ((spread_at _ a b k).trans (h2 a b)))
    have e7 : fl (.of main_v7) V (ix3 a b k) = fl (.of main_v1) V (ix3 a b k) - fl (.of main_v6) V (ix3 a b k) := congrFun g7 _
    refine (show fl (.of main_v8) V (ix3 a b k) = Ideal.exp (fl (.of main_v7) V (ix3 a b k)) from congrFun g8 _).trans ?_
    rw [e7, e6, hx]
    rfl
  have h12 : ∀ a b k, fl (.of main_v12) V (ix3 a b k) = Ideal.div (Row.expo (row X a b) k) (∑ k', Row.expo (row X a b) k') := fun a b k => by
    have e9 : fr (.of main_v9) V (ix2 a b) = ∑ k', Row.expo (row X a b) k' :=
      (congrFun g9 _).trans ((sum_at _ _ ((congrFun gcst2 _).trans ofBits_zero) a b).trans (Finset.sum_congr rfl fun k' _ => h8 a b k'))
    have e11 : fl (.of main_v11) V (ix3 a b k) = ∑ k', Row.expo (row X a b) k' :=
      (congrFun g11 _).trans ((congrArg (fun v => broadcastInDim S64x8x100000 ![0, 1, 2] bcast_S64x8x1_S64x8x100000_0_1_2 v (ix3 a b k)) g10).trans
        ((spread_at _ a b k).trans e9))
    refine (show fl (.of main_v12) V (ix3 a b k) = Ideal.div (fl (.of main_v8) V (ix3 a b k)) (fl (.of main_v11) V (ix3 a b k)) from congrFun g12 _).trans ?_
    rw [h8, e11]
  -- the clipped probability
  have hc : ∀ j, fl (.of main_v20) V j
      = min (Ideal.ofBits .f32 0x3F800000#32) (max (Ideal.ofBits .f32 0x2EDBE6FF#32) (fl (.of main_v12) V j)) := fun j => by
    have e1 : get main_call0.v1 V j = (Ideal.ofBits .f32 0x2EDBE6FF#32 : EReal) :=
      (congrFun c1 _).trans ((bcast_at _ _ _).trans ((congrFun c0 _).trans (congrFun gcst5 _)))
    have e4 : get main_call0.v4 V j = (Ideal.ofBits .f32 0x3F800000#32 : EReal) :=
      (congrFun c4 _).trans ((bcast_at _ _ _).trans ((congrFun c3 _).trans (congrFun gcst6 _)))
    have e2 : get main_call0.v2 V j = max (get main_call0.v1 V j : EReal) (fl (.of main_v12) V j) := congrFun c2 j
    refine (show fl (.of main_v20) V j = min (get main_call0.v4 V j : EReal) (get main_call0.v2 V j) from congrFun c5 _).trans ?_
    rw [e4, e2, e1]
  -- the key
  have hw : get (.of (T := ⟨S1, .i32⟩) main_v15) V (ix1 0) = 0#32 := by
    refine (congrFun g15 _).trans ((bcast_at _ _ _).trans ((congrFun g14 _).trans ((congrFun g13 _).trans ?_)))
    rw [gc, gc3]
    exact (shrui_host 42#32 32#32).trans rfl
  have hw' : get (.of (T := ⟨S1, .i32⟩) main_v18) V (ix1 0) = 42#32 := by
    refine (congrFun g18 _).trans ((bcast_at _ _ _).trans ((congrFun g17 _).trans ((congrFun g16 _).trans ?_)))
    rw [gc, gc4]
    rfl
  have hk0 : get (.of (T := ⟨S2, .i32⟩) main_v19) V (ix1 0) = 0#32 :=
    (congrFun g19 _).trans ((pair_at _ _).1.trans hw)
  have hk1 : get (.of (T := ⟨S2, .i32⟩) main_v19) V (ix1 1) = 42#32 :=
    (congrFun g19 _).trans ((pair_at _ _).2.trans hw')
  -- the score
  have hs : ∀ a b k, fl (.of main_v23) V (ix3 a b k) = Row.score (row X a b) (noise a b) k := fun a b k => by
    have e22 : fl (.of main_v22) V (ix3 a b k) = noise a b k := gumbelS_at (ix3 a b k) hgum hk0 hk1
    rw [hadd', hlog', hc, h12, e22]
    rfl
  have hrow : row (fl (.of main_v23) V) a b = Row.score (row X a b) (noise a b) := funext fun k => hs a b k
  -- the place
  obtain ⟨k₀, h₀⟩ := Row.exists_first (Row.score (row X a b) (noise a b))
  have hp : get (.of (T := ⟨S64x8, .i32⟩) main_v24) V (ix2 a b) = Row.word k₀ :=
    (congrFun a2 _).trans (argmax_at _ _ _ _ a0 (congrFun acst _) (congrFun ac _) a b (by rw [← hrow] at h₀; exact h₀))
  rw [Row.hot_eq h₀]
  have e2 : get main_call3.v2 V (ix3 a b k) = Row.word k₀ :=
    (congrFun o2 _).trans ((congrArg (fun v => broadcastInDim S64x8x100000 ![0, 1, 2] bcast_S64x8x1_S64x8x100000_0_1_2 v (ix3 a b k)) o0).trans
      ((spread_at _ a b k).trans hp))
  have e3 : get main_call3.v3 V (ix3 a b k) = Row.word k := (congrFun o3 _).trans (places_at _ o1 a b k)
  have e4 : get main_call3.v4 V (ix3 a b k) = IntOp.cmpi .eq (Row.word k₀) (Row.word k) :=
    (congrFun o4 _).trans (congrArg₂ (IntOp.cmpi .eq) e2 e3)
  refine (show fl (.of main_v25) V (ix3 a b k) = (((get main_call3.v4 V (ix3 a b k) : BitVec 1).toNat : ℝ) : EReal) from congrFun o5 _).trans ?_
  rw [e4]
  by_cases he : Row.word k = Row.word k₀
  · rw [if_pos he, he]
    simp [IntOp.cmpi]
  · rw [if_neg he]
    simp [IntOp.cmpi, Ne.symm he]

end Cert.ReferenceIdeal.Hand
-- ==== Proof.Match.lean ====
/- The kernel's result and the reference's are the same array, element by element; the reference's run leaves its argument
   and its counters as they were. -/
module

public import proofs.«01_k».proof.Proof.KernelValue
public import proofs.«01_k».proof.Proof.RefValue
public import Idealize.ShloMosaic.Lib.Quiescent

@[expose] public section

set_option maxRecDepth 65536

noncomputable section

namespace Cert.Match

open Idealize.ShloMosaic Idealize.ShloMosaic.TcCoe Idealize.ShloMosaic.ValueIdx Idealize.SL.Sem

/-- The reference's run: its argument ends as launched and every counter is at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0) :=
  (θ_run _ _ _).mono (fun r h => ⟨fun c => (h c Cert.ReferenceIdeal.main_arg0).trans (Cert.ReferenceIdeal.Hand.final_arg m c),
    sem_eq_zero_of_no_sems (by decide) r.2⟩) (Cert.ReferenceIdeal.Hand.run m g)

/-- The same arguments give the same results. -/
theorem results_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.fl (.of Cert.ReferenceIdeal.main_v25) (Cert.ReferenceIdeal.Hand.final m' c)
      = Cert.KernelIdeal.Hand.W4 m g c (Proc.devRef .tc Cert.KernelIdeal.main_v3) := by
  funext j
  rw [eq_ix3 j]
  refine (Cert.ReferenceIdeal.Hand.mainS_at (Cert.ReferenceIdeal.Hand.final_holds m' c) (j 0) (j 1) (j 2)).trans ?_
  refine Eq.trans ?_ (Cert.KernelIdeal.Hand.result_at m g c _ h.symm (j 0) (j 1) (j 2)).symm
  have ha : Cert.ReferenceIdeal.Hand.fl (.of Cert.ReferenceIdeal.main_arg0) (Cert.ReferenceIdeal.Hand.final m' c)
      = m' ((c.tc : Thread Cert.ReferenceIdeal.nD Cert.ReferenceIdeal.τ).loc Cert.ReferenceIdeal.main_arg0) :=
    Cert.ReferenceIdeal.Hand.final_arg m' c
  rw [ha]
  rfl

end Cert.Match
-- ==== Proof.lean ====
/- The proof of the claims of proofs.«01_k».proof.Defs: the three programs run, end with their argument as it was and every
   counter at zero; and at the extended reals the kernel's result is the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Match
public import Idealize.ShloMosaic.Lib.Tactic
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The kernel and the kernel read at the extended reals are the same program text: running the one is running the other. -/
theorem same_run : (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0))
      ∧ r.2.sem = fun _ => 0))
    = (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0)) := by sl_kernel_rfl

theorem kernel_frame : Cert.quiescent_Kernel (hKernel := Cert.Kernel.Gen.facts) :=
  fun m g _ => (same_run.mpr fun m g => Cert.KernelIdeal.Hand.frame (F := Bits) m g) m g

theorem kernelIdeal_frame : Cert.quiescent_KernelIdeal (hKernelIdeal := Cert.KernelIdeal.Gen.facts) :=
  fun m g _ => Cert.KernelIdeal.Hand.frame (F := Ideal) m g

theorem referenceIdeal_frame : Cert.quiescent_ReferenceIdeal (hReferenceIdeal := Cert.ReferenceIdeal.Gen.facts) :=
  fun m g _ => Cert.Match.reference_frame m g

theorem value : Cert.algebraic_KernelIdeal_ReferenceIdeal (hKernelIdeal := Cert.KernelIdeal.Gen.facts)
    (hReferenceIdeal := Cert.ReferenceIdeal.Gen.facts) :=
  fun m g m' g' _ h => ⟨fun c => Cert.KernelIdeal.Hand.W4 m g c (Proc.devRef .tc Cert.KernelIdeal.main_v3),
    (θ_run _ _ _).mono (fun _ hr => hr.1) (Cert.KernelIdeal.Hand.run (F := Ideal) m g),
    (θ_run _ _ _).mono (fun _ hr c => ⟨(hr c Cert.ReferenceIdeal.main_v25).trans (Cert.Match.results_eq m g m' c (h c)),
      (hr c Cert.ReferenceIdeal.main_arg0).trans (Cert.ReferenceIdeal.Hand.final_arg m' c)⟩) (Cert.ReferenceIdeal.Hand.run m' g')⟩

theorem claim : Cert.Claim :=
  ⟨Cert.Kernel.Gen.facts, Cert.KernelIdeal.Gen.facts, Cert.ReferenceIdeal.Gen.facts,
    kernel_frame, kernelIdeal_frame, referenceIdeal_frame, trivial, value⟩

end Cert.Proof

end
